-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x128 : Shape := ⟨2, ![1024, 128]⟩
abbrev S128 : Shape := ⟨1, ![128]⟩
abbrev S100000x128 : Shape := ⟨2, ![100000, 128]⟩
abbrev S1x128 : Shape := ⟨2, ![1, 128]⟩
abbrev S_ : Shape := ⟨0, ![]⟩

class Facts : Prop where
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S128 : S_.BroadcastsInDim S128 (![] : Fin 0 → Fin S128.rank)
  bcast_S_S1024x128 : S_.BroadcastsInDim S1024x128 (![] : Fin 0 → Fin S1024x128.rank)
  bcast_S_S100000x128 : S_.BroadcastsInDim S100000x128 (![] : Fin 0 → Fin S100000x128.rank)

variable [Facts]

def fn {F : FTy → Type} [FloatOps F] (main_arg0 : FVec F S1024x128 .f32) (main_arg1 : FVec F S128 .f32) (main_arg2 : FVec F S128 .f32) (main_arg3 : FVec F S100000x128 .f32) : IVec S1024x128 1 × IVec S100000x128 1 :=
  let main_v0 : FVec F S1x128 .f32 := broadcastInDim S1x128 ![1] bcast_S128_S1x128_1 main_arg2
  let main_v1 : FVec F S1024x128 .f32 := broadcastInDim S1024x128 ![0, 1] bcast_S1x128_S1024x128_0_1 main_v0
  let main_v2 : FVec F S1024x128 .f32 := subf main_arg0 main_v1
  let main_cst : FVec F S_ .f32 := constant S_ .f32 0x358637BD#32
  let main_v3 : FVec F S128 .f32 := broadcastInDim S128 ![] bcast_S_S128 main_cst
  let main_v4 : FVec F S128 .f32 := addf main_arg1 main_v3
  let main_v5 : FVec F S1x128 .f32 := broadcastInDim S1x128 ![1] bcast_S128_S1x128_1 main_v4
  let main_v6 : FVec F S1024x128 .f32 := broadcastInDim S1024x128 ![0, 1] bcast_S1x128_S1024x128_0_1 main_v5
  let main_v7 : FVec F S1024x128 .f32 := Host.divf main_v2 main_v6
  let main_v8 : FVec F S1024x128 .f32 := Host.absf main_v7
  let main_cst_0 : FVec F S_ .f32 := constant S_ .f32 0x7F800000#32
  let main_v9 : FVec F S1024x128 .f32 := broadcastInDim S1024x128 ![] bcast_S_S1024x128 main_cst_0
  let main_v10 : IVec S1024x128 1 := cmpf .olt main_v8 main_v9
  let main_v11 : FVec F S100000x128 .f32 := Host.absf main_arg3
  let main_cst_1 : FVec F S_ .f32 := constant S_ .f32 0x7F800000#32
  let main_v12 : FVec F S100000x128 .f32 := broadcastInDim S100000x128 ![] bcast_S_S100000x128 main_cst_1
  let main_v13 : IVec S100000x128 1 := cmpf .olt main_v11 main_v12
  (main_v10, main_v13)
-- ==== Kernel.lean ====
abbrev S1024x128 : Shape := ⟨2, ![1024, 128]⟩
abbrev S128 : Shape := ⟨1, ![128]⟩
abbrev S100000x128 : Shape := ⟨2, ![100000, 128]⟩
abbrev S_ : Shape := ⟨0, ![]⟩
abbrev S100352x128 : Shape := ⟨2, ![100352, 128]⟩
abbrev S1x128 : Shape := ⟨2, ![1, 128]⟩
abbrev S1024x1 : Shape := ⟨2, ![1024, 1]⟩
abbrev S2048x128 : Shape := ⟨2, ![2048, 128]⟩
abbrev S1024 : Shape := ⟨1, ![1024]⟩
abbrev S2048 : Shape := ⟨1, ![2048]⟩
abbrev S2048x1 : Shape := ⟨2, ![2048, 1]⟩
abbrev S1x2048 : Shape := ⟨2, ![1, 2048]⟩
abbrev S1024x2048 : Shape := ⟨2, ![1024, 2048]⟩

abbrev nBuf : Space → Nat
  | .hbm => 10
  | .vmem => 11
  | .smem => 0
  | _ => 0

abbrev bufTy : (tb : Table) → Fin (tcTables nBuf tb) → BufTy
  | .hbm, ⟨0, _⟩ => ⟨S1024x128, .f32⟩
  | .hbm, ⟨1, _⟩ => ⟨S128, .f32⟩
  | .hbm, ⟨2, _⟩ => ⟨S128, .f32⟩
  | .hbm, ⟨3, _⟩ => ⟨S100000x128, .f32⟩
  | .hbm, ⟨4, _⟩ => ⟨S_, .i32⟩
  | .hbm, ⟨5, _⟩ => ⟨S_, .f32⟩
  | .hbm, ⟨6, _⟩ => ⟨S100352x128, .f32⟩
  | .hbm, ⟨7, _⟩ => ⟨S1x128, .f32⟩
  | .hbm, ⟨8, _⟩ => ⟨S1x128, .f32⟩
  | .hbm, ⟨9, _⟩ => ⟨S1024x1, .i32⟩
  | .local _ .vmem, ⟨0, _⟩ => ⟨S1024x128, .f32⟩
  | .local _ .vmem, ⟨1, _⟩ => ⟨S1x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S1024x1, .i32⟩
  | .local _ .vmem, ⟨6, _⟩ => ⟨S1024x128, .f32⟩
  | .local _ .vmem, ⟨7, _⟩ => ⟨S1024x1, .f32⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![49], ![false]⟩

def k0_cond3 (i : grid0.Coords) : BitVec 1 :=
  let arg0 : BitVec 32 := BitVec.ofNat 32 (i 0).val
  let c48_i32_10 : BitVec 32 := 48#32
  let v18 : BitVec 1 := Scalar.cmpi .eq arg0 c48_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1024x128 : Shape := ⟨2, ![1024, 128]⟩
abbrev S128 : Shape := ⟨1, ![128]⟩
abbrev S100000x128 : Shape := ⟨2, ![100000, 128]⟩
abbrev S1x128 : Shape := ⟨2, ![1, 128]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S128x100000 : Shape := ⟨2, ![128, 100000]⟩

abbrev nBuf : Space → Nat
  | .hbm => 40
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128, .f32⟩
  | .hbm, ⟨2, _⟩ => ⟨S128, .f32⟩
  | .hbm, ⟨3, _⟩ => ⟨S100000x128, .f32⟩
  | .hbm, ⟨4, _⟩ => ⟨S1x128, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S100000x128, .f32⟩
  | .hbm, ⟨18, _⟩ => ⟨S_, .f32⟩
  | .hbm, ⟨19, _⟩ => ⟨S100000, .f32⟩
  | .hbm, ⟨20, _⟩ => ⟨S1x100000, .f32⟩
  | .hbm, ⟨21, _⟩ => ⟨S1024x100000, .f32⟩
  | .hbm, ⟨22, _⟩ => ⟨S1024x100000, .f32⟩
  | .hbm, ⟨23, _⟩ => ⟨S1024x100000, .f32⟩
  | .hbm, ⟨24, _⟩ => ⟨S128x100000, .f32⟩
  | .hbm, ⟨25, _⟩ => ⟨S1024x100000, .f32⟩
  | .hbm, ⟨26, _⟩ => ⟨S_, .f32⟩
  | .hbm, ⟨27, _⟩ => ⟨S1024x100000, .f32⟩
  | .hbm, ⟨28, _⟩ => ⟨S1024x100000, .f32⟩
  | .hbm, ⟨29, _⟩ => ⟨S1024x100000, .f32⟩
  | .hbm, ⟨30, _⟩ => ⟨S_, .f32⟩
  | .hbm, ⟨31, _⟩ => ⟨S1024x100000, .f32⟩
  | .hbm, ⟨32, _⟩ => ⟨S1024x100000, .f32⟩
  | .hbm, ⟨33, _⟩ => ⟨S1024x100000, .f32⟩
  | .hbm, ⟨34, _⟩ => ⟨S1024x100000, .i32⟩
  | .hbm, ⟨35, _⟩ => ⟨S_, .f32⟩
  | .hbm, ⟨36, _⟩ => ⟨S_, .i32⟩
  | .hbm, ⟨37, _⟩ => ⟨S1024, .f32⟩
  | .hbm, ⟨38, _⟩ => ⟨S1024, .i32⟩
  | .hbm, ⟨39, _⟩ => ⟨S1024x1, .i32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_cst : Ref sig .tc := ⟨.hbm, 35, rfl⟩
abbrev main_call0_c : Ref sig .tc := ⟨.hbm, 36, rfl⟩
abbrev main_call0_v1_0 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Carried.RunA.lean ====
/- The kernel body's run at the first grid point (the initialising branch and the sixteen-chunk branch are taken), on
   any whole staging buffers. It states every one of the five scratch buffers the body leaves: the doubled queries,
   their squared norms, the running minima, the running winners and the lane numbers. -/
module

public import proofs.«01_k».proof.Proof.Gen.KernelIdeal.Frame.Runs

@[expose] public section

-- the run goes through the long axes one coordinate at a time
set_option maxRecDepth 16384

noncomputable section

namespace Cert.KernelIdeal.Carried

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch `arg6` the kernel carries between points, as a view: what it holds is stated through it. -/
abbrev VS0_0 : View sig .tc .vmem S1024x128 .f32 := scM0_0.view

-- the run's proof term is large
set_option maxHeartbeats 1000000 in
/-- What the body's stores leave in the output's staging memref (`L4`) and in the five scratch buffers (`LS·`), as pieces
    with the last first, at the first point: the initialising branch and the sixteen-chunk branch are taken. With it the proof that, from whole staging
    memrefs with the inputs' at their contents and every scratch buffer at anything,
    the body runs to the continuation holding the inputs' as they were and every buffer it stored into with its pieces
    written. Each `scf.if` is decided by one of the hypotheses `hc·`; the pieces are the witness that the run finds. -/
noncomputable def kernelRun0_A (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : cond0_0 i) (hc1 : cond0_1 i) (hc2 : ¬cond0_2 i)
    (x0 : Vec F S1024x128 .f32) (x1 : Vec F S1x128 .f32) (x2 : Vec F S1x128 .f32) (x3 : Vec F S2048x128 .f32) :
    Σ' (L4 : List (View.Piece (Elt F) S1024x1 .i32)), Σ' (LS0 : List (View.Piece (Elt F) S1024x128 .f32)), Σ' (LS1 : List (View.Piece (Elt F) S1024x1 .f32)), Σ' (LS2 : List (View.Piece (Elt F) S1024x128 .f32)), Σ' (LS3 : List (View.Piece (Elt F) S1024x128 .f32)), { LS4 : List (View.Piece (Elt F) S1x128 .f32) //
      ∀ (xi4 : Vec F S1024x1 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4)) -∗ K ⟨⟩))
          ⊢ wp frame (wpE (defs₀ (F := F)) Variants.none c none) E (cc0__nn_kernel i arg1 harg1 arg2 harg2 arg3 harg3 arg4 harg4 arg5 harg5 arg6 harg6 arg7 harg7 arg8 harg8 arg9 harg9 arg10 harg10) K } := by
  refine ⟨[], ?_, ?_, ?_, ?_, ?_, fun xi4 E K => ?run⟩
  case run =>
    simp only [cc0__nn_kernel_eq_skeleton]; unfold cc0__nn_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    isplitl [HS1]; · iexists _; iexact HS1
    isplitl [HS2]; · iexists _; iexact HS2
    isplitl [HS3]; · iexists _; iexact HS3
    iexists _; iexact HS4

end Cert.KernelIdeal.Carried

end
-- ==== Proof.Carried.RunB.lean ====
/- The kernel body's run at the grid points 1 to 47 (only the sixteen-chunk branch is taken), on any whole staging
   buffers. All five scratch buffers are taken at named contents: the body reads the doubled queries, their norms, the
   running minima and winners and the lane numbers that the point before left. -/
module

public import proofs.«01_k».proof.Proof.Carried.RunA

@[expose] public section

-- the run goes through the long axes one coordinate at a time
set_option maxRecDepth 16384

noncomputable section

namespace Cert.KernelIdeal.Carried

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1600000 in
/-- What the body's stores leave in the output's staging memref (`L4`) and in the five scratch buffers (`LS·`), as pieces
    with the last first, at the points 1 to 47: only the sixteen-chunk branch is taken. With it the proof that, from whole staging
    memrefs with the inputs' at their contents and the five scratch buffers at the contents the point before left (`xs·`),
    the body runs to the continuation holding the inputs' as they were and every buffer it stored into with its pieces
    written. Each `scf.if` is decided by one of the hypotheses `hc·`; the pieces are the witness that the run finds. -/
noncomputable def kernelRun0_B (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : cond0_1 i) (hc2 : ¬cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) :
    Σ' (L4 : List (View.Piece (Elt F) S1024x1 .i32)), Σ' (LS0 : List (View.Piece (Elt F) S1024x128 .f32)), Σ' (LS1 : List (View.Piece (Elt F) S1024x1 .f32)), Σ' (LS2 : List (View.Piece (Elt F) S1024x128 .f32)), Σ' (LS3 : List (View.Piece (Elt F) S1024x128 .f32)), { LS4 : List (View.Piece (Elt F) S1x128 .f32) //
      ∀ (xi4 : Vec F S1024x1 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1 ∗ owns (c : Thread nD τ) arg8 fullShare xs2 ∗ owns (c : Thread nD τ) arg9 fullShare xs3 ∗ owns (c : Thread nD τ) arg10 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1 ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ owns (c : Thread nD τ) arg10 fullShare xs4) -∗ K ⟨⟩))
          ⊢ wp frame (wpE (defs₀ (F := F)) Variants.none c none) E (cc0__nn_kernel i arg1 harg1 arg2 harg2 arg3 harg3 arg4 harg4 arg5 harg5 arg6 harg6 arg7 harg7 arg8 harg8 arg9 harg9 arg10 harg10) K } := by
  refine ⟨[], [], [], ?_, ?_, [], fun xi4 E K => ?run⟩
  case run =>
    simp only [cc0__nn_kernel_eq_skeleton]; unfold cc0__nn_kernel_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1; obtain rfl := harg8.eq_unread hfs2; obtain rfl := harg9.eq_unread hfs3; obtain rfl := harg10.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _; isplitr; · ipureintro; exact harg6.read_unread _
      iexact HS0
    isplitl [HS1]
    · iexists _; isplitr; · ipureintro; exact harg7.read_unread _
      iexact HS1
    isplitl [HS2]; · iexists _; iexact HS2
    isplitl [HS3]; · iexists _; iexact HS3
    iexists _; isplitr; · ipureintro; exact harg10.read_unread _
    iexact HS4

end Cert.KernelIdeal.Carried

end
-- ==== Proof.Carried.RunC.lean ====
/- The kernel body's run at the last grid point (only the branch with the masked last chunk and the final selection is
   taken), on any whole staging buffers, all five scratch buffers taken at named contents. -/
module

public import proofs.«01_k».proof.Proof.Carried.RunB

@[expose] public section

-- the run goes through the long axes one coordinate at a time
set_option maxRecDepth 16384

noncomputable section

namespace Cert.KernelIdeal.Carried

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1600000 in
/-- What the body's stores leave in the output's staging memref (`L4`) and in the five scratch buffers (`LS·`), as pieces
    with the last first, at the last point: only the branch with the masked last chunk is taken. With it the proof that, from whole staging
    memrefs with the inputs' at their contents and the five scratch buffers at the contents the point before left (`xs·`),
    the body runs to the continuation holding the inputs' as they were and every buffer it stored into with its pieces
    written. Each `scf.if` is decided by one of the hypotheses `hc·`; the pieces are the witness that the run finds. -/
noncomputable def kernelRun0_C (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : ¬cond0_1 i) (hc2 : cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) :
    Σ' (L4 : List (View.Piece (Elt F) S1024x1 .i32)), Σ' (LS0 : List (View.Piece (Elt F) S1024x128 .f32)), Σ' (LS1 : List (View.Piece (Elt F) S1024x1 .f32)), Σ' (LS2 : List (View.Piece (Elt F) S1024x128 .f32)), Σ' (LS3 : List (View.Piece (Elt F) S1024x128 .f32)), { LS4 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3 ∗ owns (c : Thread nD τ) arg10 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0 ∗ owns (c : Thread nD τ) arg7 fullShare xs1 ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ owns (c : Thread nD τ) arg10 fullShare xs4) -∗ K ⟨⟩))
          ⊢ wp frame (wpE (defs₀ (F := F)) Variants.none c none) E (cc0__nn_kernel i arg1 harg1 arg2 harg2 arg3 harg3 arg4 harg4 arg5 harg5 arg6 harg6 arg7 harg7 arg8 harg8 arg9 harg9 arg10 harg10) K } := by
  refine ⟨?_, [], [], ?_, ?_, [], fun E K => ?run⟩
  case run =>
    simp only [cc0__nn_kernel_eq_skeleton]; unfold cc0__nn_kernel_skel
    simp only [k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1; obtain rfl := harg8.eq_unread hfs2; obtain rfl := harg9.eq_unread hfs3; obtain rfl := harg10.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    isplitl [HS1]
    · iexists _; isplitr; · ipureintro; exact harg7.read_unread _
      iexact HS1
    isplitl [HS2]; · iexists _; iexact HS2
    isplitl [HS3]; · iexists _; iexact HS3
    iexists _; isplitr; · ipureintro; exact harg10.read_unread _
    iexact HS4

end Cert.KernelIdeal.Carried

end
-- ==== Proof.Carried.Frame.lean ====
/- The launch: what the output and the five scratch buffers hold point by point (`outsAt0`), the body's obligation at
   every point, the run of `@main` and its frame. All five scratch buffers are carried from point to point at named
   contents, the doubled queries among them. -/
module

public import proofs.«01_k».proof.Proof.Carried.RunC
public import Idealize.ShloMosaic.Lib.Claim

@[expose] public section

-- the long axes are gone through one coordinate at a time
set_option maxRecDepth 16384

noncomputable section

namespace Cert.KernelIdeal.Carried

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : cond0_0 i) (hc1 : cond0_1 i) (hc2 : ¬cond0_2 i)
    (x0 : Vec F S1024x128 .f32) (x1 : Vec F S1x128 .f32) (x2 : Vec F S1x128 .f32) (x3 : Vec F S2048x128 .f32) : Vec F S1024x1 .i32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 hc0 hc1 hc2 x0 x1 x2 x3).1)

/-- Case A's pieces for scratch `arg6`, which the kernel carries between points, cover it: 1 piece of `S1024x128` tiling it (Lib/Ring.lean `Piece.tiledL`). -/
theorem scover0_A_0 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : cond0_0 i) (hc1 : cond0_1 i) (hc2 : ¬cond0_2 i)
    (x0 : Vec F S1024x128 .f32) (x1 : Vec F S1x128 .f32) (x2 : Vec F S1x128 .f32) (x3 : Vec F S2048x128 .f32) (y : S1024x128.Idx) :
    ∃ pc ∈ (kernelRun0_A c i arg1 harg1 arg2 harg2 arg3 harg3 arg4 harg4 arg5 harg5 arg6 harg6 arg7 harg7 arg8 harg8 arg9 harg9 arg10 harg10 hc0 hc1 hc2 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 x0 x1 x2 x3).2.1 S1024x128.size (by sl_kernel_rfl) y

/-- What case A leaves in scratch `arg6`: its pieces read back over junk. -/
def sout0_A_0 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : cond0_0 i) (hc1 : cond0_1 i) (hc2 : ¬cond0_2 i)
    (x0 : Vec F S1024x128 .f32) (x1 : Vec F S1x128 .f32) (x2 : Vec F S1x128 .f32) (x3 : Vec F S2048x128 .f32) : Vec F S1024x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 hc2 x0 x1 x2 x3).2.1)

/-- Case A's pieces for scratch `arg7`, which the kernel carries between points, cover it: 1 piece of `S1024x1` tiling it (Lib/Ring.lean `Piece.tiledL`). -/
theorem scover0_A_1 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : cond0_0 i) (hc1 : cond0_1 i) (hc2 : ¬cond0_2 i)
    (x0 : Vec F S1024x128 .f32) (x1 : Vec F S1x128 .f32) (x2 : Vec F S1x128 .f32) (x3 : Vec F S2048x128 .f32) (y : S1024x1.Idx) :
    ∃ pc ∈ (kernelRun0_A c i arg1 harg1 arg2 harg2 arg3 harg3 arg4 harg4 arg5 harg5 arg6 harg6 arg7 harg7 arg8 harg8 arg9 harg9 arg10 harg10 hc0 hc1 hc2 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 x0 x1 x2 x3).2.2.1 S1024x1.size (by sl_kernel_rfl) y

/-- What case A leaves in scratch `arg7`: its pieces read back over junk. -/
def sout0_A_1 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : cond0_0 i) (hc1 : cond0_1 i) (hc2 : ¬cond0_2 i)
    (x0 : Vec F S1024x128 .f32) (x1 : Vec F S1x128 .f32) (x2 : Vec F S1x128 .f32) (x3 : Vec F S2048x128 .f32) : Vec F S1024x1 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 hc2 x0 x1 x2 x3).2.2.1)

/-- Case A's pieces for scratch `arg8`, which the kernel carries between points, cover it: 2 pieces of `S1024x128` tiling it (Lib/Ring.lean `Piece.tiledL`). -/
theorem scover0_A_2 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : cond0_0 i) (hc1 : cond0_1 i) (hc2 : ¬cond0_2 i)
    (x0 : Vec F S1024x128 .f32) (x1 : Vec F S1x128 .f32) (x2 : Vec F S1x128 .f32) (x3 : Vec F S2048x128 .f32) (y : S1024x128.Idx) :
    ∃ pc ∈ (kernelRun0_A c i arg1 harg1 arg2 harg2 arg3 harg3 arg4 harg4 arg5 harg5 arg6 harg6 arg7 harg7 arg8 harg8 arg9 harg9 arg10 harg10 hc0 hc1 hc2 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 x0 x1 x2 x3).2.2.2.1 S1024x128.size (by sl_kernel_rfl) y

/-- What case A leaves in scratch `arg8`: its pieces read back over junk. -/
def sout0_A_2 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : cond0_0 i) (hc1 : cond0_1 i) (hc2 : ¬cond0_2 i)
    (x0 : Vec F S1024x128 .f32) (x1 : Vec F S1x128 .f32) (x2 : Vec F S1x128 .f32) (x3 : Vec F S2048x128 .f32) : Vec F S1024x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 hc0 hc1 hc2 x0 x1 x2 x3).2.2.2.1)

/-- Case A's pieces for scratch `arg9`, which the kernel carries between points, cover it: 2 pieces of `S1024x128` tiling it (Lib/Ring.lean `Piece.tiledL`). -/
theorem scover0_A_3 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : cond0_0 i) (hc1 : cond0_1 i) (hc2 : ¬cond0_2 i)
    (x0 : Vec F S1024x128 .f32) (x1 : Vec F S1x128 .f32) (x2 : Vec F S1x128 .f32) (x3 : Vec F S2048x128 .f32) (y : S1024x128.Idx) :
    ∃ pc ∈ (kernelRun0_A c i arg1 harg1 arg2 harg2 arg3 harg3 arg4 harg4 arg5 harg5 arg6 harg6 arg7 harg7 arg8 harg8 arg9 harg9 arg10 harg10 hc0 hc1 hc2 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 x0 x1 x2 x3).2.2.2.2.1 S1024x128.size (by sl_kernel_rfl) y

/-- What case A leaves in scratch `arg9`: its pieces read back over junk. -/
def sout0_A_3 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : cond0_0 i) (hc1 : cond0_1 i) (hc2 : ¬cond0_2 i)
    (x0 : Vec F S1024x128 .f32) (x1 : Vec F S1x128 .f32) (x2 : Vec F S1x128 .f32) (x3 : Vec F S2048x128 .f32) : Vec F S1024x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 hc0 hc1 hc2 x0 x1 x2 x3).2.2.2.2.1)

/-- Case A's pieces for scratch `arg10`, which the kernel carries between points, cover it: 1 piece of `S1x128` tiling it (Lib/Ring.lean `Piece.tiledL`). -/
theorem scover0_A_4 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : cond0_0 i) (hc1 : cond0_1 i) (hc2 : ¬cond0_2 i)
    (x0 : Vec F S1024x128 .f32) (x1 : Vec F S1x128 .f32) (x2 : Vec F S1x128 .f32) (x3 : Vec F S2048x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 hc2 x0 x1 x2 x3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 hc2 x0 x1 x2 x3).2.2.2.2.2.1 S1x128.size (by sl_kernel_rfl) y

/-- What case A leaves in scratch `arg10`: its pieces read back over junk. -/
def sout0_A_4 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : cond0_0 i) (hc1 : cond0_1 i) (hc2 : ¬cond0_2 i)
    (x0 : Vec F S1024x128 .f32) (x1 : Vec F S1x128 .f32) (x2 : Vec F S1x128 .f32) (x3 : Vec F S2048x128 .f32) : Vec F S1x128 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 hc0 hc1 hc2 x0 x1 x2 x3).2.2.2.2.2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : cond0_1 i) (hc2 : ¬cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) : Vec F S1024x1 .i32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).1)

/-- Case B stores nothing into scratch `arg6`: it holds what the point before left. -/
def sout0_B_0 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : cond0_1 i) (hc2 : ¬cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) : Vec F S1024x128 .f32 := xs0

/-- Case B stores nothing into scratch `arg7`: it holds what the point before left. -/
def sout0_B_1 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : cond0_1 i) (hc2 : ¬cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) : Vec F S1024x1 .f32 := xs1

/-- Case B's pieces for scratch `arg8`, which the kernel carries between points, cover it: 1 piece of `S1024x128` tiling it (Lib/Ring.lean `Piece.tiledL`). -/
theorem scover0_B_2 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : cond0_1 i) (hc2 : ¬cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) (y : S1024x128.Idx) :
    ∃ pc ∈ (kernelRun0_B c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).2.2.2.1 S1024x128.size (by sl_kernel_rfl) y

/-- What case B leaves in scratch `arg8`: its pieces read back over junk. -/
def sout0_B_2 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : cond0_1 i) (hc2 : ¬cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) : Vec F S1024x128 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).2.2.2.1)

/-- Case B's pieces for scratch `arg9`, which the kernel carries between points, cover it: 1 piece of `S1024x128` tiling it (Lib/Ring.lean `Piece.tiledL`). -/
theorem scover0_B_3 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : cond0_1 i) (hc2 : ¬cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) (y : S1024x128.Idx) :
    ∃ pc ∈ (kernelRun0_B c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).2.2.2.2.1 S1024x128.size (by sl_kernel_rfl) y

/-- What case B leaves in scratch `arg9`: its pieces read back over junk. -/
def sout0_B_3 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : cond0_1 i) (hc2 : ¬cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) : Vec F S1024x128 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).2.2.2.2.1)

/-- Case B stores nothing into scratch `arg10`: it holds what the point before left. -/
def sout0_B_4 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : cond0_1 i) (hc2 : ¬cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) : Vec F S1x128 .f32 := xs4

/-- Case C's pieces for output 4 tile its block (one store of `S1024x1`), so they cover it. -/
theorem cover0_C_4 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : ¬cond0_1 i) (hc2 : cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) (y : S1024x1.Idx) :
    ∃ pc ∈ (kernelRun0_C c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).1 S1024x1.size (by sl_kernel_rfl) y

/-- What case C leaves in output 4's staging buffer: its pieces read back over junk. -/
def out0_C_4 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : ¬cond0_1 i) (hc2 : cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) : Vec F S1024x1 .i32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).1)

/-- Case C stores nothing into scratch `arg6`: it holds what the point before left. -/
def sout0_C_0 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : ¬cond0_1 i) (hc2 : cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) : Vec F S1024x128 .f32 := xs0

/-- Case C stores nothing into scratch `arg7`: it holds what the point before left. -/
def sout0_C_1 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : ¬cond0_1 i) (hc2 : cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) : Vec F S1024x1 .f32 := xs1

/-- Case C's pieces for scratch `arg8`, which the kernel carries between points, cover it: 1 piece of `S1024x128` tiling it (Lib/Ring.lean `Piece.tiledL`). -/
theorem scover0_C_2 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : ¬cond0_1 i) (hc2 : cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) (y : S1024x128.Idx) :
    ∃ pc ∈ (kernelRun0_C c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).2.2.2.1 S1024x128.size (by sl_kernel_rfl) y

/-- What case C leaves in scratch `arg8`: its pieces read back over junk. -/
def sout0_C_2 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : ¬cond0_1 i) (hc2 : cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) : Vec F S1024x128 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).2.2.2.1)

/-- Case C's pieces for scratch `arg9`, which the kernel carries between points, cover it: 1 piece of `S1024x128` tiling it (Lib/Ring.lean `Piece.tiledL`). -/
theorem scover0_C_3 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : ¬cond0_1 i) (hc2 : cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) (y : S1024x128.Idx) :
    ∃ pc ∈ (kernelRun0_C c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).2.2.2.2.1 S1024x128.size (by sl_kernel_rfl) y

/-- What case C leaves in scratch `arg9`: its pieces read back over junk. -/
def sout0_C_3 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : ¬cond0_1 i) (hc2 : cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) : Vec F S1024x128 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 hc0 hc1 hc2 x0 x1 x2 x3 xs0 xs1 xs2 xs3 xs4).2.2.2.2.1)

/-- Case C stores nothing into scratch `arg10`: it holds what the point before left. -/
def sout0_C_4 (c : Dev nD) (i : grid0.Coords) (arg1 : Memref sig .tc .vmem S1024x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S1024x1 .i32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x128 .f32) (harg10 : arg10.IsWhole) (hc0 : ¬cond0_0 i) (hc1 : ¬cond0_1 i) (hc2 : cond0_2 i)
    (x0 : Vec F S1024x128 .f32) (x1 : Vec F S1x128 .f32) (x2 : Vec F S1x128 .f32) (x3 : Vec F S2048x128 .f32) (xs0 : Vec F S1024x128 .f32) (xs1 : Vec F S1024x1 .f32) (xs2 : Vec F S1024x128 .f32) (xs3 : Vec F S1024x128 .f32) (xs4 : Vec F S1x128 .f32) : Vec F S1x128 .f32 := xs4

/-! ## What the outputs hold after each point -/

/-- What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1 .i32 × Vec F S1024x128 .f32 × Vec F S1024x1 .f32 × Vec F S1024x128 .f32 × Vec F S1024x128 .f32 × Vec F S1x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 49 = 0 then
      if h1 : (n + 1) < 48 then
        if h2 : (n + 1) % 49 = 48 then
          False.elim (by have hN : n + 1 < 49 := lt_of_lt_of_eq hn (show cfg0.N = 49 from N_0); omega)
        else
          (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩))
      else
        False.elim (by have hN : n + 1 < 49 := lt_of_lt_of_eq hn (show cfg0.N = 49 from N_0); omega)
    else
      if h1 : (n + 1) < 48 then
        if h2 : (n + 1) % 49 = 48 then
          False.elim (by have hN : n + 1 < 49 := lt_of_lt_of_eq hn (show cfg0.N = 49 from N_0); omega)
        else
          (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        if h2 : (n + 1) % 49 = 48 then
          (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
        else
          False.elim (by have hN : n + 1 < 49 := lt_of_lt_of_eq hn (show cfg0.N = 49 from N_0); omega)

/-- `outsAt0` at a point of case A: that case's contents. -/
theorem outsAt0_A (c : Dev nD) (t : Fin cfg0.N) (h0 : t.val % 49 = 0) (h1 : t.val < 48) (h2 : ¬t.val % 49 = 48) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t), sout0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 49 = 0) (h1 : t.val < 48) (h2 : ¬t.val % 49 = 48) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 49 = 0) (h1 : ¬t.val < 48) (h2 : t.val % 49 = 48) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel carries between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ owns (c : Thread nD τ) scM0_4 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 49 := lt_of_lt_of_eq t.isLt (show cfg0.N = 49 from N_0)
  by_cases h0 : t.val % 49 = 0
  · by_cases h1 : t.val < 48
    · by_cases h2 : t.val % 49 = 48
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [Dat.leavesExact_idle (dats m 0 c) 4 t (idleAt0_4_A t ((hcond0_0 t).mpr h0) ((hcond0_1 t).mpr h1) (fun h => h2 ((hcond0_2 t).mp h))) (noFlush0_4_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [outsAt0_A m c t h0 h1 h2]
          unfold sout0_A_0 sout0_A_1 sout0_A_2 sout0_A_3 sout0_A_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t)).2.2.2.2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HS2]; · iexact HS2
          isplitl [HS3]; · iexact HS3
          isplitl [HS4]; · iexact HS4
          iintro ⟨H0, H1, H2, H3, H4, ⟨%es0, HS0⟩, ⟨%es1, HS1⟩, ⟨%es2, HS2⟩, ⟨%es3, HS3⟩, ⟨%es4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _)
              unfold owns; iexists _; isplitr
              swap; · iexact HS4
              ipureintro; exact View.read_writes_of_cover _ _ _ _ _ (scover0_A_4 c _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          iexists _; iexact H4
        · exfalso; have hN : t.val < 49 := lt_of_lt_of_eq t.isLt (show cfg0.N = 49 from N_0); omega
    · exfalso; omega
  · by_cases h1 : t.val < 48
    · by_cases h2 : t.val % 49 = 48
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [Dat.leavesExact_idle (dats m 0 c) 4 t (idleAt0_4_B t (fun h => h0 ((hcond0_0 t).mp h)) ((hcond0_1 t).mpr h1) (fun h => h2 ((hcond0_2 t).mp h))) (noFlush0_4_B t (fun h => h0 ((hcond0_0 t).mp h)) ((hcond0_1 t).mpr h1) (fun h => h2 ((hcond0_2 t).mp h)))]
        by_cases hz : t.val = 0
        · exfalso; have hN : t.val < 49 := lt_of_lt_of_eq t.isLt (show cfg0.N = 49 from N_0); omega
        · rw [PhiS_castSucc m c t, PhiS_pos m c _ _ hz]
          rw [outsAt0_B m c t h0 h1 h2]
          unfold sout0_B_0 sout0_B_1 sout0_B_2 sout0_B_3 sout0_B_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) _ _ _ _ _).2.2.2.2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HS2]; · iexact HS2
          isplitl [HS3]; · iexact HS3
          isplitl [HS4]; · iexact HS4
          iintro ⟨H0, H1, H2, H3, H4, HS0, HS1, ⟨%es2, HS2⟩, ⟨%es3, HS3⟩, HS4⟩
          isplitl [HS0 HS1 HS2 HS3 HS4 Hg]
          · isplitl [HS0 HS1 HS2 HS3 HS4]
            · isplitl [HS0]
              · iexact HS0
              isplitl [HS1]
              · iexact HS1
              isplitl [HS2]
              · unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_B_3 c _ _ _ _ _ _ _ _ _ _ _ _ _ _ _ _ _ _ _ _ _ _ _ _ _ _ _ _ _ _ _ _ _)
              iexact HS4
            iexact Hg
          isplitl [Ho]; · iexact Ho
          isplitl [H0]; · iexact H0
          isplitl [H1]; · iexact H1
          isplitl [H2]; · iexact H2
          isplitl [H3]; · iexact H3
          iexists _; iexact H4
    · by_cases h2 : t.val % 49 = 48
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4_C t (fun h => h0 ((hcond0_0 t).mp h)) (fun h => h1 ((hcond0_1 t).mp h)) ((hcond0_2 t).mpr h2)], after0_4]
        by_cases hz : t.val = 0
        · exfalso; have hN : t.val < 49 := lt_of_lt_of_eq t.isLt (show cfg0.N = 49 from N_0); omega
        · rw [PhiS_castSucc m c t, PhiS_pos m c _ _ hz]
          rw [outsAt0_C m c t h0 h1 h2]
          unfold out0_C_4 sout0_C_0 sout0_C_1 sout0_C_2 sout0_C_3 sout0_C_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) _ _ _ _ _).2.2.2.2.2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HS2]; · iexact HS2
          isplitl [HS3]; · iexact HS3
          isplitl [HS4]; · iexact HS4
          iintro ⟨H0, H1, H2, H3, ⟨%e4, H4⟩, HS0, HS1, ⟨%es2, HS2⟩, ⟨%es3, HS3⟩, HS4⟩
          isplitl [HS0 HS1 HS2 HS3 HS4 Hg]
          · isplitl [HS0 HS1 HS2 HS3 HS4]
            · isplitl [HS0]
              · iexact HS0
              isplitl [HS1]
              · iexact HS1
              isplitl [HS2]
              · unfold owns; iexists _; isplitr
                swap; · iexact HS2
                ipureintro; exact View.read_writes_of_cover _ _ _ _ _ (scover0_C_2 c _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_C_3 c _ _ _ _ _ _ _ _ _ _ _ _ _ _ _ _ _ _ _ _ _ _ _ _ _ _ _ _ _ _ _ _ _)
              iexact HS4
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 49 := N_0; omega)

/-! ## The run and the frame -/

-- `θ_run_frame_track`'s implicit arguments are found by unifying its conclusion with this one, which takes unfolding plain
-- definitions in a metavariable's type
set_option backward.isDefEq.respectTransparency.types false in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The kernel terminates without failure, its arguments are unchanged and every semaphore counter ends at zero, for values
    of any kind. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Carried

end
-- ==== Proof.KernelFrame.lean ====
/-
  The frames of the kernel. `Cert.Kernel` and `Cert.KernelIdeal` are printed from the same text, so their programs are the
  same term once the arithmetic is left open: the run proved for the one over any values is a run of the other at the
  bit patterns.
-/
module

public import proofs.«01_k».proof.Defs
public import proofs.«01_k».proof.Proof.Carried.Frame
public import proofs.«01_k».proof.Proof.Gen.Kernel

@[expose] public section

noncomputable section

namespace Cert.Proof

open Idealize.ShloMosaic Idealize.SL.Sem

variable {F : FTy → Type} [FloatOps F]

/-- The two printings of the kernel's function are one function. -/
theorem kernel_eq : @Cert.Kernel.cc0__nn_kernel F _ _ = @Cert.KernelIdeal.cc0__nn_kernel F _ _ := by rfl

/-- So are the two tables of kernel functions. -/
theorem defs₀_eq : @Cert.Kernel.defs₀ F _ _ = @Cert.KernelIdeal.defs₀ F _ _ := by
  unfold Cert.Kernel.defs₀ Cert.KernelIdeal.defs₀
  refine congrArg Defs.onTc ?_
  funext ℓ x
  match ℓ, x with
  | ⟨0, _⟩, (t, s) =>
    dsimp only
    rw [kernel_eq]
    rfl
  | ⟨_ + 1, h⟩, _ => exact absurd h (Nat.not_lt.2 (Nat.le_add_left _ _))

/-- And the two tables of everything the programs call. -/
theorem defs_eq : @Cert.Kernel.defs F _ _ = @Cert.KernelIdeal.defs F _ _ := by
  unfold Cert.Kernel.defs Cert.KernelIdeal.defs
  exact congrArg (Pipeline.defs Cert.KernelIdeal.pcfgs) defs₀_eq

/-- The kernel terminates from any memory, leaves its arguments as they were and every counter at zero. -/
theorem frame_kernel : Cert.quiescent_Kernel := by
  intro m ρ _
  rw [defs_eq]
  exact Cert.KernelIdeal.Carried.frame (F := Bits) m ρ

/-- The same of the kernel over the reals. -/
theorem frame_ideal : Cert.quiescent_KernelIdeal := fun m ρ _ => Cert.KernelIdeal.Carried.frame m ρ

end Cert.Proof

end
-- ==== Proof.Carried.Value.lean ====
/- What the output array holds after the launch: the fold of the points' contents (`stAt0`) from the first point to the
   last, read off the launch's run. The frame it reads is `Carried`'s. -/
module

public import proofs.«01_k».proof.Proof.Carried.Frame
public import Idealize.ShloMosaic.Lib.Pipeline.Value

@[expose] public section

noncomputable section

namespace Cert.KernelIdeal.Value

open Cert.KernelIdeal Cert.KernelIdeal.Gen Cert.KernelIdeal.Carried Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to output window 4's array: the run's contents for that window after the body, read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-! ## The carried state as one fold: the named outputs and the carried scratch, from the first point -/

/-- What the fold starts from: each named output's and carried scratch's buffer read at junk. No case
    computes from it: the first point's case stores what it names before reading; only an output that case leaves
    idle keeps its junk component. -/
def junk0 : Vec F S1024x1 .i32 × Vec F S1024x128 .f32 × Vec F S1024x1 .f32 × Vec F S1024x128 .f32 × Vec F S1024x128 .f32 × Vec F S1x128 .f32 :=
  ((VO0_4.read (Elt F) VO0_4.junk, VS0_0.read (Elt F) VS0_0.junk, VS0_1.read (Elt F) VS0_1.junk, VS0_2.read (Elt F) VS0_2.junk, VS0_3.read (Elt F) VS0_3.junk, VS0_4.read (Elt F) VS0_4.junk) : Vec F S1024x1 .i32 × Vec F S1024x128 .f32 × Vec F S1024x1 .f32 × Vec F S1024x128 .f32 × Vec F S1024x128 .f32 × Vec F S1x128 .f32)

/-- The step: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1024x1 .i32 × Vec F S1024x128 .f32 × Vec F S1024x1 .f32 × Vec F S1024x128 .f32 × Vec F S1024x128 .f32 × Vec F S1x128 .f32) : Vec F S1024x1 .i32 × Vec F S1024x128 .f32 × Vec F S1024x1 .f32 × Vec F S1024x128 .f32 × Vec F S1024x128 .f32 × Vec F S1x128 .f32 :=
  if h0 : n % 49 = 0 then
    if h1 : n < 48 then
      if h2 : n % 49 = 48 then
        False.elim (by have hN : n < 49 := lt_of_lt_of_eq hb (show cfg0.N = 49 from N_0); omega)
      else
        (out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)))
    else
      False.elim (by have hN : n < 49 := lt_of_lt_of_eq hb (show cfg0.N = 49 from N_0); omega)
  else
    if h1 : n < 48 then
      if h2 : n % 49 = 48 then
        False.elim (by have hN : n < 49 := lt_of_lt_of_eq hb (show cfg0.N = 49 from N_0); omega)
      else
        (out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2, sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2, sout0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2)
    else
      if h2 : n % 49 = 48 then
        (out0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2, sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2, sout0_C_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2, sout0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.1 acc.2.2.1 acc.2.2.2.1 acc.2.2.2.2.1 acc.2.2.2.2.2)
      else
        False.elim (by have hN : n < 49 := lt_of_lt_of_eq hb (show cfg0.N = 49 from N_0); omega)

/-- `stAt0` at a point of case A: that case's contents. -/
theorem stAt0_A (c : Dev nD) (t : Fin cfg0.N) (acc : Vec F S1024x1 .i32 × Vec F S1024x128 .f32 × Vec F S1024x1 .f32 × Vec F S1024x128 .f32 × Vec F S1024x128 .f32 × Vec F S1x128 .f32) (h0 : t.val % 49 = 0) (h1 : t.val < 48) (h2 : ¬t.val % 49 = 48) :
    stAt0 m c t.val t.isLt acc = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t), sout0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t)) :=
  (dif_pos h0).trans ((dif_pos h1).trans ((dif_neg h2).trans rfl))

/-- `stAt0` at a point of case B: that case's contents, over `acc`. -/
theorem stAt0_B (c : Dev nD) (t : Fin cfg0.N) (acc : Vec F S1024x1 .i32 × Vec F S1024x128 .f32 × Vec F S1024x1 .f32 × Vec F S1024x128 .f32 × Vec F S1024x128 .f32 × Vec F S1x128 .f32) (h0 : ¬t.val % 49 = 0) (h1 : t.val < 48) (h2 : ¬t.val % 49 = 48) :
    stAt0 m c t.val t.isLt acc = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) acc.2.1 acc.2.2.1 acc.2.2.2.1 acc.2.2.2.2.1 acc.2.2.2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) acc.2.1 acc.2.2.1 acc.2.2.2.1 acc.2.2.2.2.1 acc.2.2.2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) acc.2.1 acc.2.2.1 acc.2.2.2.1 acc.2.2.2.2.1 acc.2.2.2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) acc.2.1 acc.2.2.1 acc.2.2.2.1 acc.2.2.2.2.1 acc.2.2.2.2.2, sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) acc.2.1 acc.2.2.1 acc.2.2.2.1 acc.2.2.2.2.1 acc.2.2.2.2.2, sout0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) acc.2.1 acc.2.2.1 acc.2.2.2.1 acc.2.2.2.2.1 acc.2.2.2.2.2) :=
  (dif_neg h0).trans ((dif_pos h1).trans ((dif_neg h2).trans rfl))

/-- `stAt0` at a point of case C: that case's contents, over `acc`. -/
theorem stAt0_C (c : Dev nD) (t : Fin cfg0.N) (acc : Vec F S1024x1 .i32 × Vec F S1024x128 .f32 × Vec F S1024x1 .f32 × Vec F S1024x128 .f32 × Vec F S1024x128 .f32 × Vec F S1x128 .f32) (h0 : ¬t.val % 49 = 0) (h1 : ¬t.val < 48) (h2 : t.val % 49 = 48) :
    stAt0 m c t.val t.isLt acc = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) acc.2.1 acc.2.2.1 acc.2.2.2.1 acc.2.2.2.2.1 acc.2.2.2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) acc.2.1 acc.2.2.1 acc.2.2.2.1 acc.2.2.2.2.1 acc.2.2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) acc.2.1 acc.2.2.1 acc.2.2.2.1 acc.2.2.2.2.1 acc.2.2.2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) acc.2.1 acc.2.2.1 acc.2.2.2.1 acc.2.2.2.2.1 acc.2.2.2.2.2, sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) acc.2.1 acc.2.2.1 acc.2.2.2.1 acc.2.2.2.2.1 acc.2.2.2.2.2, sout0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) acc.2.1 acc.2.2.1 acc.2.2.2.1 acc.2.2.2.2.1 acc.2.2.2.2.2) :=
  (dif_neg h0).trans ((dif_neg h1).trans ((dif_pos h2).trans rfl))

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (by (try dsimp only); omega) (fun h => by (try dsimp only at h); omega)]
  rfl

/-- What the named outputs and the carried scratch hold after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 49 from N_0)
  have e := Pipeline.eq_accAt_of_mod (fun n h => outsAt0 m c n h) 49 (fun n h => stAt0 m c n h junk0) (stAt0 m c)
    (fun n h _ => by
      have hN := lt_of_lt_of_eq h (show cfg0.N = 49 from N_0)
      obtain rfl : n = 0 := by omega
      exact outsAt0_zero m c h)
    (fun n h _ => outsAt0_succ m c n h)
    (by decide) n hn (by have := Nat.div_add_mod n 49; omega)
  have hd : n / 49 = 0 := Nat.div_eq_of_lt hN
  have hm : n % 49 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 4 -/

/-- The block of the array that holds index `i`, numbered in the order the points write the blocks back (one every 49 points),
    `i`'s place in it, and the point that writes it back (the last of its 49). -/
abbrev run4Of (i : S1024x1.Idx) : ℕ := 1 * ((i 0).val / 1024 - 0) + 1 * ((i 1).val / 1 - 0)
set_option backward.proofsInPublic true in
abbrev loc4Of (i : S1024x1.Idx) : S1024x1.Idx := fun a => match a with
  | ⟨0, _⟩ => ⟨(i 0).val % 1024, Nat.mod_lt _ (by decide)⟩
  | ⟨1, _⟩ => ⟨(i 1).val % 1, Nat.mod_lt _ (by decide)⟩
abbrev pt4Of (i : S1024x1.Idx) : ℕ := 49 * run4Of i + 48

/-- What the array ends holding at index `i` inside the box the flushing blocks fill: output 4's component of the carried
    state's fold at the point that writes `i`'s block back, at `i`'s place in the block. `G4` states the array's contents
    only inside the box. -/
def G4 (c : Dev nD) : Buf (Elt F) ((c : Thread nD τ).loc main_v0) := fun i =>
  if h : pt4Of i < cfg0.N then
    (Pipeline.accAt (fun n h => stAt0 m c n h junk0) (stAt0 m c) 0 (pt4Of i) (by omega)).1 (loc4Of i)
  else V m c (Pipeline.arrRef spec0 4) i

/-- The printed index map, decided over the grid: output window 4's block indices stay in the box, and the block number
    read off them is the point's (`t / 49`). -/
theorem idx_facts4 : ∀ t : Fin cfg0.N, 0 ≤ win0_4.index t (0 : Fin 2) ∧ win0_4.index t (0 : Fin 2) ≤ 0
    ∧ 0 ≤ win0_4.index t (1 : Fin 2) ∧ win0_4.index t (1 : Fin 2) ≤ 0
    ∧ 1 * (win0_4.index t (0 : Fin 2) - 0) + 1 * (win0_4.index t (1 : Fin 2) - 0) = t.val / 49 :=
  (by decide +kernel : ∀ t : Fin grid0.N, _)

/-- Every block of the box is some flushing point's: `onto4Pt`, the point that writes back the block at place `q` of the box (the last point of its run). -/
abbrev onto4Pt (q0 : Fin 1) (q1 : Fin 1) : Fin grid0.N :=
  ⟨49 * (1 * q0.val + 1 * q1.val) + 48, lt_of_lt_of_eq (by omega) N_0.symm⟩
theorem idx_onto4 : ∀ (q0 : Fin 1) (q1 : Fin 1), ∃ t : Fin cfg0.N, (cfg0.win 4).flush t = true ∧ win0_4.index t = ![q0.val + 0, q1.val + 0] :=
  fun q0 q1 => ⟨onto4Pt q0 q1, (by decide +kernel : ∀ (q0 : Fin 1) (q1 : Fin 1), win0_4.flush (onto4Pt q0 q1) = true ∧ win0_4.index (onto4Pt q0 q1) = ![q0.val + 0, q1.val + 0]) q0 q1⟩

/-- What a flushing point `t` writes back is block `t` of `G4`: output 4's component of the fold up to `t`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, outsAt0_sweep]
  have hm : t.val % 49 = 48 := (flush0_4 t).mp hf
  obtain ⟨e0, e1, e2⟩ := idx_facts4 t
  funext y
  have hy0 : (y 0).val < 1024 := (y 0).isLt
  have hy1 : (y 1).val < 1 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 1 + 1 * (y 1).val := rfl
  have hr : run4Of (((cfg0.win 4).blk t).view.emb y) = t.val / 49 := by
    show 1 * ((((cfg0.win 4).blk t).view.emb y 0).val / 1024 - 0) + 1 * ((((cfg0.win 4).blk t).view.emb y 1).val / 1 - 0) = _
    rw [hb0, hb1]
    rw [show (win0_4.index t (0 : Fin 2) * 1024 + 1 * (y 0).val) / 1024 = win0_4.index t (0 : Fin 2) from by omega]; rw [show (win0_4.index t (1 : Fin 2) * 1 + 1 * (y 1).val) / 1 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 1024 = (y 0).val; rw [hb0]; omega
    | ⟨1, _⟩ => show (((cfg0.win 4).blk t).view.emb y 1).val % 1 = (y 1).val; rw [hb1]; omega
  have hp : pt4Of (((cfg0.win 4).blk t).view.emb y) = t.val := by
    show 49 * run4Of (((cfg0.win 4).blk t).view.emb y) + 48 = _
    rw [hr]; have := Nat.div_add_mod t.val 49; omega
  show (Pipeline.accAt (fun n h => stAt0 m c n h junk0) (stAt0 m c) 0 t.val _).1 ((cfg0.win 4).xinj (grid0.coords t) y) = G4 m c (((cfg0.win 4).blk t).view.emb y)
  unfold G4
  rw [dif_pos (by rw [hp]; exact t.isLt), hl, fold0_congr m c _ _ _ _ hp.symm]

/-- An index of the array is in point `t`'s block iff each coordinate is in the block's range on its axis. -/
theorem mem_blk4 (t : Fin cfg0.N) (i : S1024x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0).slice (win0_4.rect t)).set ↔ _
  rw [View.set_slice_whole, Rect.mem_set_unit]
  exact Iff.rfl

/-- The covered indices: in some flushing point's block iff inside the box those blocks fill. -/
theorem covered_iff4 (i : S1024x1.Idx) :
    (∃ t : Fin cfg0.N, (cfg0.win 4).flush t = true ∧ i ∈ ((cfg0.win 4).blk t).view.set) ↔ 0 ≤ (i 0).val ∧ (i 0).val < 1024 ∧ 0 ≤ (i 1).val ∧ (i 1).val < 1 := by
  constructor
  · rintro ⟨t, -, hi⟩
    rw [mem_blk4] at hi
    have b0 : win0_4.index t (0 : Fin 2) * 1024 ≤ (i 0).val ∧ (i 0).val < win0_4.index t (0 : Fin 2) * 1024 + 1024 := hi 0
    have b1 : win0_4.index t (1 : Fin 2) * 1 ≤ (i 1).val ∧ (i 1).val < win0_4.index t (1 : Fin 2) * 1 + 1 := hi 1
    obtain ⟨e0, e1, e2⟩ := idx_facts4 t
    omega
  · intro h
    have hi0 : (i 0).val < 1024 := (i 0).isLt
    have hi1 : (i 1).val < 1 := (i 1).isLt
    obtain ⟨t, hft, ht⟩ := idx_onto4 ⟨(i 0).val / 1024 - 0, by omega⟩ ⟨(i 1).val / 1 - 0, by omega⟩
    have q0 : win0_4.index t (0 : Fin 2) = (i 0).val / 1024 - 0 + 0 := congrFun ht 0
    have q1 : win0_4.index t (1 : Fin 2) = (i 1).val / 1 - 0 + 0 := congrFun ht 1
    refine ⟨t, hft, ?_⟩
    rw [mem_blk4]
    intro a
    match a with
    | ⟨0, _⟩ => show win0_4.index t (0 : Fin 2) * 1024 ≤ (i 0).val ∧ (i 0).val < win0_4.index t (0 : Fin 2) * 1024 + 1024; omega
    | ⟨1, _⟩ => show win0_4.index t (1 : Fin 2) * 1 ≤ (i 1).val ∧ (i 1).val < win0_4.index t (1 : Fin 2) * 1 + 1; omega

/-- The array after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 1024 := (i 0).isLt; have h1 : (i 1).val < 1 := (i 1).isLt; omega))

/-- Output 4 is written back once, at the last point, and its block is its array: the array after the run is output 4's
    component of the fold over the whole grid. -/
theorem G4_last (c : Dev nD) :
    G4 m c = (Pipeline.accAt (fun n h => stAt0 m c n h junk0) (stAt0 m c) 0 48 (lt_of_lt_of_eq (by decide) N_0.symm)).1 := by
  funext i
  have hi0 : (i 0).val < 1024 := (i 0).isLt
  have hi1 : (i 1).val < 1 := (i 1).isLt
  have hp : pt4Of i = 48 := by
    show 49 * (1 * ((i 0).val / 1024 - 0) + 1 * ((i 1).val / 1 - 0)) + 48 = _
    omega
  have hl : loc4Of i = i := by
    funext a; apply Fin.ext
    match a with
    | ⟨0, _⟩ => show (i 0).val % 1024 = (i 0).val; omega
    | ⟨1, _⟩ => show (i 1).val % 1 = (i 1).val; omega
  unfold G4
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      kept_main_arg0 m r h c,
      kept_main_arg1 m r h c,
      kept_main_arg2 m r h c,
      kept_main_arg3 m r h c⟩)
    (run_main m ρ)

end Cert.KernelIdeal.Value

end
-- ==== Proof.Chunks.lean ====
/-
  One block of the kernel, written as its chunks. The kernel compares every query with 128 table rows at a time: it forms the
  1024 by 128 distances to them (`Chunk.dist`), the rows' numbers (`Chunk.pos`), and replaces the running minima that the
  distances undercut (`step`). The theorems say that what the body stores after its chunks is the fold of that one step.
-/
module

public import proofs.«01_k».proof.Proof.Gen.KernelIdeal.Skeleton
public import Idealize.ShloMosaic.Lib.Pipeline.Value

@[expose] public section

noncomputable section

namespace Cert.Proof

open Cert.KernelIdeal Cert.KernelIdeal.Gen Idealize.ShloMosaic

variable {F : FTy → Type} [FloatOps F]

/-- Chunk `k` of a block: columns `128·k` to `128·k + 127`, and the word that holds the float `128·k`. -/
structure Chunk where
  /-- the chunk's number within its block -/
  k : ℕ
  /-- the columns lie within the row of squared norms -/
  row : S1x2048.Slices ![0, 128 * k] S1x128
  /-- the columns lie within the matrix of products -/
  mat : S1024x2048.Slices ![0, 128 * k] S1024x128
  /-- the float `128·k` -/
  word : BitVec 32

/-- The distances of a chunk: the queries' squared norms, plus the rows' squared norms, plus the products. -/
def Chunk.dist (ch : Chunk) (t2 : FVec F S1x2048 .f32) (pr : FVec F S1024x2048 .f32) (q2 : FVec F S1024x1 .f32) :
    FVec F S1024x128 .f32 :=
  addf (addf (broadcastTo S1024x128 q2 broadcasts_S1024x1_S1024x128)
      (broadcastTo S1024x128 (extractStridedSlice S1x128 ![0, 128 * ch.k] t2 ch.row) broadcasts_S1x128_S1024x128))
    (extractStridedSlice S1024x128 ![0, 128 * ch.k] pr ch.mat)

/-- The numbers of a chunk's rows, as floats, the same for every query. -/
def Chunk.pos (ch : Chunk) (lanes : FVec F S1x128 .f32) (base : F .f32) : FVec F S1024x128 .f32 :=
  broadcastTo S1024x128
    (shapeCast S1x128 (addf lanes (broadcast S1x128 (Scalar.addf base (Scalar.ofBits .f32 ch.word)))) shapeCasts_S1x128_S1x128)
    broadcasts_S1x128_S1024x128

/-- One comparison, at every query and lane. -/
def step (p : FVec F S1024x128 .f32 × FVec F S1024x128 .f32) (d g : FVec F S1024x128 .f32) :
    FVec F S1024x128 .f32 × FVec F S1024x128 .f32 :=
  (select (cmpf .olt d p.1) d p.1, select (cmpf .olt d p.1) g p.2)

/-- The running minima and positions after the chunks of a list. -/
def sweep (t2 : FVec F S1x2048 .f32) (pr : FVec F S1024x2048 .f32) (q2 : FVec F S1024x1 .f32) (lanes : FVec F S1x128 .f32)
    (base : F .f32) (p : FVec F S1024x128 .f32 × FVec F S1024x128 .f32) (l : List Chunk) :
    FVec F S1024x128 .f32 × FVec F S1024x128 .f32 :=
  l.foldl (fun p ch => step p (ch.dist t2 pr q2) (ch.pos lanes base)) p

/-- Chunks 0 to 2, 3 to 6, 7 to 10 and 11 to 14 of a block, and its last. -/
def chunksA : List Chunk :=
  [⟨0, slices_S1x2048_o0_0_S1x128, slices_S1024x2048_o0_0_S1024x128, 0x00000000#32⟩,
   ⟨1, slices_S1x2048_o0_128_S1x128, slices_S1024x2048_o0_128_S1024x128, 0x43000000#32⟩,
   ⟨2, slices_S1x2048_o0_256_S1x128, slices_S1024x2048_o0_256_S1024x128, 0x43800000#32⟩]

@[inherit_doc chunksA]
def chunksB : List Chunk :=
  [⟨3, slices_S1x2048_o0_384_S1x128, slices_S1024x2048_o0_384_S1024x128, 0x43C00000#32⟩,
   ⟨4, slices_S1x2048_o0_512_S1x128, slices_S1024x2048_o0_512_S1024x128, 0x44000000#32⟩,
   ⟨5, slices_S1x2048_o0_640_S1x128, slices_S1024x2048_o0_640_S1024x128, 0x44200000#32⟩,
   ⟨6, slices_S1x2048_o0_768_S1x128, slices_S1024x2048_o0_768_S1024x128, 0x44400000#32⟩]

@[inherit_doc chunksA]
def chunksC : List Chunk :=
  [⟨7, slices_S1x2048_o0_896_S1x128, slices_S1024x2048_o0_896_S1024x128, 0x44600000#32⟩,
   ⟨8, slices_S1x2048_o0_1024_S1x128, slices_S1024x2048_o0_1024_S1024x128, 0x44800000#32⟩,
   ⟨9, slices_S1x2048_o0_1152_S1x128, slices_S1024x2048_o0_1152_S1024x128, 0x44900000#32⟩,
   ⟨10, slices_S1x2048_o0_1280_S1x128, slices_S1024x2048_o0_1280_S1024x128, 0x44A00000#32⟩]

/-- Chunk 11, which a part of the body forms and the next compares. -/
def chunk11 : Chunk := ⟨11, slices_S1x2048_o0_1408_S1x128, slices_S1024x2048_o0_1408_S1024x128, 0x44B00000#32⟩

/-- Chunk 12. -/
def chunk12 : Chunk := ⟨12, slices_S1x2048_o0_1536_S1x128, slices_S1024x2048_o0_1536_S1024x128, 0x44C00000#32⟩

/-- Chunk 13. -/
def chunk13 : Chunk := ⟨13, slices_S1x2048_o0_1664_S1x128, slices_S1024x2048_o0_1664_S1024x128, 0x44D00000#32⟩

@[inherit_doc chunksA]
def chunksD : List Chunk :=
  [chunk11, chunk12, chunk13,
   ⟨14, slices_S1x2048_o0_1792_S1x128, slices_S1024x2048_o0_1792_S1024x128, 0x44E00000#32⟩]

@[inherit_doc chunksA]
def chunksE : List Chunk :=
  [⟨15, slices_S1x2048_o0_1920_S1x128, slices_S1024x2048_o0_1920_S1024x128, 0x44F00000#32⟩]

/-- All sixteen chunks of a block. -/
def chunks16 : List Chunk := chunksA ++ chunksB ++ chunksC ++ chunksD ++ chunksE

/-- The thirteen whole chunks of the last block. -/
def chunks13 : List Chunk := chunksA ++ chunksB ++ chunksC ++ [chunk11, chunk12]

/-- The distances of the last block's chunk 13: beyond its first 32 rows the table has ended, and the distance is the float `⊤`. -/
def lastDist (t2 : FVec F S1x2048 .f32) (pr : FVec F S1024x2048 .f32) (q2 : FVec F S1024x1 .f32) (lanes : FVec F S1x128 .f32) :
    FVec F S1024x128 .f32 :=
  select (broadcastTo S1024x128 (shapeCast S1x128 (cmpf .olt lanes (broadcast S1x128 (Scalar.ofBits .f32 0x42000000#32)))
      shapeCasts_S1x128_S1x128) broadcasts_S1x128_S1024x128)
    (chunk13.dist t2 pr q2) (broadcast S1024x128 (Scalar.ofBits .f32 0x7F800000#32))

section

variable (t2 : FVec F S1x2048 .f32) (pr : FVec F S1024x2048 .f32) (q2 : FVec F S1024x1 .f32) (lanes : FVec F S1x128 .f32)
  (base : F .f32) (v g : FVec F S1024x128 .f32)

/-- Two lists of chunks, one after the other. -/
theorem sweep_append (p : FVec F S1024x128 .f32 × FVec F S1024x128 .f32) (l l' : List Chunk) :
    sweep t2 pr q2 lanes base p (l ++ l') = sweep t2 pr q2 lanes base (sweep t2 pr q2 lanes base p l) l' := List.foldl_append

/-- The parts of the sixteen-chunk body, each over the running pair it takes. -/
theorem partA : (k0_pay23 t2 pr q2 v, k0_pay24 t2 pr q2 lanes base v g) = sweep t2 pr q2 lanes base (v, g) chunksA := rfl

@[inherit_doc partA]
theorem partB : (k0_pay37 t2 pr q2 v (k0_pay25 t2 pr q2), k0_pay38 t2 pr q2 lanes base v g (k0_pay25 t2 pr q2) (k0_pay26 base))
    = sweep t2 pr q2 lanes base (v, g) chunksB := rfl

@[inherit_doc partA]
theorem partC : (k0_pay51 t2 pr q2 v (k0_pay39 t2 pr q2), k0_pay52 t2 pr q2 lanes base v g (k0_pay39 t2 pr q2) (k0_pay40 base))
    = sweep t2 pr q2 lanes base (v, g) chunksC := rfl

@[inherit_doc partA]
theorem partD : (k0_pay65 t2 pr q2 v (k0_pay53 t2 pr q2), k0_pay66 t2 pr q2 lanes base v g (k0_pay53 t2 pr q2) (k0_pay54 base))
    = sweep t2 pr q2 lanes base (v, g) chunksD := rfl

/-- The last chunk of the sixteen-chunk body and the stores. -/
theorem partE : (k0_pay6 v (k0_pay67 t2 pr q2), k0_pay7 lanes v g (k0_pay67 t2 pr q2) (k0_pay68 base))
    = sweep t2 pr q2 lanes base (v, g) chunksE := by
  unfold k0_pay6 k0_pay7 sweep chunksE
  simp only [shapeCast_self, List.foldl, Chunk.pos]
  rfl

/-- What the sixteen-chunk body stores into the running minima: the fold of all its chunks. -/
theorem body16_val (g : FVec F S1024x128 .f32) :
    k0_pay6 (k0_pay65 t2 pr q2 (k0_pay51 t2 pr q2 (k0_pay37 t2 pr q2 (k0_pay23 t2 pr q2 v) (k0_pay25 t2 pr q2)) (k0_pay39 t2 pr q2))
        (k0_pay53 t2 pr q2)) (k0_pay67 t2 pr q2) = (sweep t2 pr q2 lanes base (v, g) chunks16).1 := by
  unfold chunks16
  simp only [sweep_append, ← partA, ← partB, ← partC, ← partD, ← partE]

/-- What the sixteen-chunk body stores into the running positions. -/
theorem body16_pos :
    k0_pay7 lanes (k0_pay65 t2 pr q2 (k0_pay51 t2 pr q2 (k0_pay37 t2 pr q2 (k0_pay23 t2 pr q2 v) (k0_pay25 t2 pr q2)) (k0_pay39 t2 pr q2))
        (k0_pay53 t2 pr q2))
      (k0_pay66 t2 pr q2 lanes base (k0_pay51 t2 pr q2 (k0_pay37 t2 pr q2 (k0_pay23 t2 pr q2 v) (k0_pay25 t2 pr q2)) (k0_pay39 t2 pr q2))
        (k0_pay52 t2 pr q2 lanes base (k0_pay37 t2 pr q2 (k0_pay23 t2 pr q2 v) (k0_pay25 t2 pr q2))
          (k0_pay38 t2 pr q2 lanes base (k0_pay23 t2 pr q2 v) (k0_pay24 t2 pr q2 lanes base v g) (k0_pay25 t2 pr q2) (k0_pay26 base))
          (k0_pay39 t2 pr q2) (k0_pay40 base))
        (k0_pay53 t2 pr q2) (k0_pay54 base))
      (k0_pay67 t2 pr q2) (k0_pay68 base) = (sweep t2 pr q2 lanes base (v, g) chunks16).2 := by
  unfold chunks16
  simp only [sweep_append, ← partA, ← partB, ← partC, ← partD, ← partE]

/-- The parts of the last block's body. Their chunks are the other body's. -/
theorem lastA : (k0_pay77 t2 pr q2 v, k0_pay78 t2 pr q2 lanes base v g) = sweep t2 pr q2 lanes base (v, g) chunksA := rfl

@[inherit_doc lastA]
theorem lastB : (k0_pay91 t2 pr q2 v (k0_pay79 t2 pr q2), k0_pay92 t2 pr q2 lanes base v g (k0_pay79 t2 pr q2) (k0_pay80 base))
    = sweep t2 pr q2 lanes base (v, g) chunksB := rfl

@[inherit_doc lastA]
theorem lastC : (k0_pay105 t2 pr q2 v (k0_pay93 t2 pr q2), k0_pay106 t2 pr q2 lanes base v g (k0_pay93 t2 pr q2) (k0_pay94 base))
    = sweep t2 pr q2 lanes base (v, g) chunksC := rfl

/-- The end of the last block's body: two whole chunks, and the one the table ends in. -/
theorem lastD : (k0_pay116 t2 pr q2 lanes v (k0_pay107 t2 pr q2), k0_pay117 t2 pr q2 lanes base v g (k0_pay107 t2 pr q2) (k0_pay108 base))
    = step (sweep t2 pr q2 lanes base (v, g) [chunk11, chunk12]) (lastDist t2 pr q2 lanes) (chunk13.pos lanes base) := by
  unfold k0_pay116 k0_pay117
  simp only [shapeCast_self, sweep, List.foldl, Chunk.pos, step, lastDist]
  unfold k0_pay115 k0_pay114
  simp only [shapeCast_self]
  rfl

/-- What the last block's body stores into the running minima. -/
theorem body14_val (g : FVec F S1024x128 .f32) :
    k0_pay116 t2 pr q2 lanes (k0_pay105 t2 pr q2 (k0_pay91 t2 pr q2 (k0_pay77 t2 pr q2 v) (k0_pay79 t2 pr q2)) (k0_pay93 t2 pr q2))
        (k0_pay107 t2 pr q2)
      = (step (sweep t2 pr q2 lanes base (v, g) chunks13) (lastDist t2 pr q2 lanes) (chunk13.pos lanes base)).1 := by
  unfold chunks13
  simp only [sweep_append, ← lastA, ← lastB, ← lastC, ← lastD]

/-- What the last block's body stores into the running positions. -/
theorem body14_pos :
    k0_pay117 t2 pr q2 lanes base (k0_pay105 t2 pr q2 (k0_pay91 t2 pr q2 (k0_pay77 t2 pr q2 v) (k0_pay79 t2 pr q2)) (k0_pay93 t2 pr q2))
        (k0_pay106 t2 pr q2 lanes base (k0_pay91 t2 pr q2 (k0_pay77 t2 pr q2 v) (k0_pay79 t2 pr q2))
          (k0_pay92 t2 pr q2 lanes base (k0_pay77 t2 pr q2 v) (k0_pay78 t2 pr q2 lanes base v g) (k0_pay79 t2 pr q2) (k0_pay80 base))
          (k0_pay93 t2 pr q2) (k0_pay94 base))
        (k0_pay107 t2 pr q2) (k0_pay108 base)
      = (step (sweep t2 pr q2 lanes base (v, g) chunks13) (lastDist t2 pr q2 lanes) (chunk13.pos lanes base)).2 := by
  unfold chunks13
  simp only [sweep_append, ← lastA, ← lastB, ← lastC, ← lastD]

end

end Cert.Proof

end
-- ==== Proof.Points.lean ====
/-
  What one grid point leaves in the buffers the kernel carries from point to point, and what the last leaves in its result:
  the fold of the block's chunks over what the point before left.
-/
module

public import proofs.«01_k».proof.Proof.Carried.Value
public import proofs.«01_k».proof.Proof.Chunks
public import Idealize.ShloMosaic.Lib.Pipeline.ReadBack
public import Idealize.ShloMosaic.Lib.Pipeline.ValueKit.Acc

@[expose] public section

noncomputable section

namespace Cert.Proof

open Cert.KernelIdeal Cert.KernelIdeal.Gen Cert.KernelIdeal.Carried Cert.KernelIdeal.Value
open Idealize.ShloMosaic Idealize.ShloMosaic.TcCoe Idealize.SL.Sem

variable {F : FTy → Type} [FloatOps F]
variable (m : (ℓ : Loc nD τ sig) → Buf (Elt F) ℓ)

/-- The carried values: the doubled queries, their squared norms, the running minima and positions, the lane numbers. -/
abbrev Carry (F : FTy → Type) [FloatOps F] : Type :=
  Vec F S1024x128 .f32 × Vec F S1024x1 .f32 × Vec F S1024x128 .f32 × Vec F S1024x128 .f32 × Vec F S1x128 .f32

/-- What the body makes of the carried values at a point before the last, over the point's block of the table. -/
def carry16 (i : grid0.Coords) (x : Vec F S2048x128 .f32) (s : Carry F) : Carry F :=
  (s.1, s.2.1,
    (sweep (k0_pay2 x) (k0_pay3 x s.1) s.2.1 s.2.2.2.2 (k0_pay4 i) (s.2.2.1, s.2.2.2.1) chunks16).1,
    (sweep (k0_pay2 x) (k0_pay3 x s.1) s.2.1 s.2.2.2.2 (k0_pay4 i) (s.2.2.1, s.2.2.2.1) chunks16).2, s.2.2.2.2)

/-- What the first point puts in the carried buffers before its block: from the queries, the shift and the scale. -/
def carryInit (x : Vec F S1024x128 .f32) (b w : Vec F S1x128 .f32) : Carry F :=
  (k0_pay10 x b w, k0_pay11 x b w, k0_pay12, k0_pay13, k0_pay14)

/-- The running pair after the last point's block. -/
def last14 (i : grid0.Coords) (x : Vec F S2048x128 .f32) (s : Carry F) : FVec F S1024x128 .f32 × FVec F S1024x128 .f32 :=
  step (sweep (k0_pay2 x) (k0_pay3 x s.1) s.2.1 s.2.2.2.2 (k0_pay4 i) (s.2.2.1, s.2.2.2.1) chunks13)
    (lastDist (k0_pay2 x) (k0_pay3 x s.1) s.2.1 s.2.2.2.2) (chunk13.pos s.2.2.2.2 (k0_pay4 i))

variable (c : Dev nD) (t : Fin cfg0.N) (acc : Vec F S1024x1 .i32 × Carry F)

/-- A point that is neither first nor last. -/
theorem point_mid (h0 : ¬t.val % 49 = 0) (h1 : t.val < 48) (h2 : ¬t.val % 49 = 48) :
    (stAt0 m c t.val t.isLt acc).2 = carry16 (grid0.coords t) (iblk m c 3 t) acc.2 := by
  rw [stAt0_B m c t acc h0 h1 h2]
  dsimp only
  unfold carry16 sout0_B_2 sout0_B_3 sout0_B_0 sout0_B_1 sout0_B_4
  rw [View.read_writes_eq_canon _ _ _ (scover0_B_2 _ _ _ _ _ _ _ _ _ _ _ _ _ _ _ _ _ _ _ _ _ _ _ _ _ _ _ _ _ _ _ _ _ _),
    View.read_writes_eq_canon _ _ _ (scover0_B_3 _ _ _ _ _ _ _ _ _ _ _ _ _ _ _ _ _ _ _ _ _ _ _ _ _ _ _ _ _ _ _ _ _ _)]
  unfold kernelRun0_B
  dsimp only
  sl_unfold_words
  simp (disch := decide) only [View.readAt_eq_ld, Memref.IsWhole.read_unread, read_unread_whole, View.ld_unit_lit',
    View.canon_cons_unit_lit', View.readCov_cons_unit_lit']
  rw [body16_val _ _ _ acc.2.2.2.2.2 (k0_pay4 (grid0.coords t)) _ acc.2.2.2.2.1, body16_pos]

/-- The first point: the doubled queries. -/
theorem first_ym (h0 : t.val % 49 = 0) (h1 : t.val < 48) (h2 : ¬t.val % 49 = 48) :
    (stAt0 m c t.val t.isLt acc).2.1 = k0_pay10 (iblk m c 0 t) (iblk m c 2 t) (iblk m c 1 t) := by
  rw [stAt0_A m c t acc h0 h1 h2]
  dsimp only
  unfold sout0_A_0
  rw [View.read_writes_eq_canon _ _ _ (scover0_A_0 _ _ _ _ _ _ _ _ _ _ _ _ _ _ _ _ _ _ _ _ _ _ _ _ _ _ _ _ _)]
  unfold kernelRun0_A
  dsimp only
  sl_unfold_words
  simp (disch := decide) only [View.readAt_eq_ld, Memref.IsWhole.read_unread, read_unread_whole, View.ld_unit_lit',
    View.canon_cons_unit_lit', View.readCov_cons_unit_lit']

/-- The first point: the squared norms. -/
theorem first_q2 (h0 : t.val % 49 = 0) (h1 : t.val < 48) (h2 : ¬t.val % 49 = 48) :
    (stAt0 m c t.val t.isLt acc).2.2.1 = k0_pay11 (iblk m c 0 t) (iblk m c 2 t) (iblk m c 1 t) := by
  rw [stAt0_A m c t acc h0 h1 h2]
  dsimp only
  unfold sout0_A_1
  rw [View.read_writes_eq_canon _ _ _ (scover0_A_1 _ _ _ _ _ _ _ _ _ _ _ _ _ _ _ _ _ _ _ _ _ _ _ _ _ _ _ _ _)]
  unfold kernelRun0_A
  dsimp only
  sl_unfold_words
  simp (disch := decide) only [View.readAt_eq_ld, Memref.IsWhole.read_unread, read_unread_whole, View.ld_unit_lit',
    View.canon_cons_unit_lit', View.readCov_cons_unit_lit']

/-- The first point: the running minima. -/
theorem first_val (h0 : t.val % 49 = 0) (h1 : t.val < 48) (h2 : ¬t.val % 49 = 48) :
    (stAt0 m c t.val t.isLt acc).2.2.2.1 = (carry16 (grid0.coords t) (iblk m c 3 t) (carryInit (iblk m c 0 t) (iblk m c 2 t) (iblk m c 1 t))).2.2.1 := by
  rw [stAt0_A m c t acc h0 h1 h2]
  dsimp only
  unfold carry16 carryInit sout0_A_2
  rw [View.read_writes_eq_canon _ _ _ (scover0_A_2 _ _ _ _ _ _ _ _ _ _ _ _ _ _ _ _ _ _ _ _ _ _ _ _ _ _ _ _ _)]
  unfold kernelRun0_A
  dsimp only
  sl_unfold_words
  simp (disch := decide) only [View.readAt_eq_ld, Memref.IsWhole.read_unread, read_unread_whole, View.ld_unit_lit',
    View.canon_cons_unit_lit', View.readCov_cons_unit_lit']
  rw [body16_val _ _ _ k0_pay14 (k0_pay4 (grid0.coords t)) _ k0_pay13]

/-- The first point: the running positions. -/
theorem first_pos (h0 : t.val % 49 = 0) (h1 : t.val < 48) (h2 : ¬t.val % 49 = 48) :
    (stAt0 m c t.val t.isLt acc).2.2.2.2.1 = (carry16 (grid0.coords t) (iblk m c 3 t) (carryInit (iblk m c 0 t) (iblk m c 2 t) (iblk m c 1 t))).2.2.2.1 := by
  rw [stAt0_A m c t acc h0 h1 h2]
  dsimp only
  unfold carry16 carryInit sout0_A_3
  rw [View.read_writes_eq_canon _ _ _ (scover0_A_3 _ _ _ _ _ _ _ _ _ _ _ _ _ _ _ _ _ _ _ _ _ _ _ _ _ _ _ _ _)]
  unfold kernelRun0_A
  dsimp only
  sl_unfold_words
  simp (disch := decide) only [View.readAt_eq_ld, Memref.IsWhole.read_unread, read_unread_whole, View.ld_unit_lit',
    View.canon_cons_unit_lit', View.readCov_cons_unit_lit']
  rw [body16_pos]

/-- The first point: the lane numbers. -/
theorem first_lanes (h0 : t.val % 49 = 0) (h1 : t.val < 48) (h2 : ¬t.val % 49 = 48) :
    (stAt0 m c t.val t.isLt acc).2.2.2.2.2 = k0_pay14 := by
  rw [stAt0_A m c t acc h0 h1 h2]
  dsimp only
  unfold sout0_A_4
  rw [View.read_writes_eq_canon _ _ _ (scover0_A_4 _ _ _ _ _ _ _ _ _ _ _ _ _ _ _ _ _ _ _ _ _ _ _ _ _ _ _ _ _)]
  unfold kernelRun0_A
  dsimp only
  sl_unfold_words
  simp (disch := decide) only [View.readAt_eq_ld, Memref.IsWhole.read_unread, read_unread_whole, View.ld_unit_lit',
    View.canon_cons_unit_lit', View.readCov_cons_unit_lit']

/-- The first point. -/
theorem point_first (h0 : t.val % 49 = 0) (h1 : t.val < 48) (h2 : ¬t.val % 49 = 48) :
    (stAt0 m c t.val t.isLt acc).2 = carry16 (grid0.coords t) (iblk m c 3 t) (carryInit (iblk m c 0 t) (iblk m c 2 t) (iblk m c 1 t)) :=
  Prod.ext (first_ym m c t acc h0 h1 h2) (Prod.ext (first_q2 m c t acc h0 h1 h2) (Prod.ext (first_val m c t acc h0 h1 h2)
    (Prod.ext (first_pos m c t acc h0 h1 h2) (first_lanes m c t acc h0 h1 h2))))

/-- The last point: its result. -/
theorem point_last (h0 : ¬t.val % 49 = 0) (h1 : ¬t.val < 48) (h2 : t.val % 49 = 48) :
    (stAt0 m c t.val t.isLt acc).1 = k0_pay8 (last14 (grid0.coords t) (iblk m c 3 t) acc.2).1 (last14 (grid0.coords t) (iblk m c 3 t) acc.2).2 := by
  rw [stAt0_C m c t acc h0 h1 h2]
  dsimp only
  unfold last14 out0_C_4
  rw [View.read_writes_eq_canon _ _ _ (cover0_C_4 _ _ _ _ _ _ _ _ _ _ _ _ _ _ _ _ _ _ _ _ _ _ _ _ _ _ _ _ _ _ _ _ _ _)]
  unfold kernelRun0_C
  dsimp only
  sl_unfold_words
  simp (disch := decide) only [View.readAt_eq_ld, Memref.IsWhole.read_unread, read_unread_whole, View.ld_unit_lit',
    View.canon_cons_unit_lit', View.readCov_cons_unit_lit']
  rw [body14_val _ _ _ _ (k0_pay4 (grid0.coords t)) _ acc.2.2.2.2.1, body14_pos]

end Cert.Proof

end
-- ==== Proof.Tournament.lean ====
/-
  Finding the first smallest of a sequence of extended reals, with no array in sight.

  `IsFirst f v` says that `v` is where `f` is least, the earliest such place. Two ways of finding it are treated.
  The one keeps 128 running minima, one per residue of the position modulo 128, each replaced only by something strictly
  smaller (`better`); `Best` is what one of them holds after `n` rounds, and `winner` says that the least position among the
  residues whose minimum is the overall minimum is the first smallest place. The other folds a list of (value, position)
  pairs by a selection that never picks the later of two (`foldl_least`).
-/
module

public import Mathlib.Data.EReal.Basic
public import Mathlib.Data.Finset.Lattice.Fold
public import Mathlib.Data.Fintype.Basic

@[expose] public section

noncomputable section

namespace Cert.Proof

/-- A position as an extended real. -/
abbrev place (n : ℕ) : EReal := ((n : ℝ) : EReal)

/-- Places are ordered as their numbers, -/
theorem place_lt {a b : ℕ} : place a < place b ↔ a < b := by
  rw [EReal.coe_lt_coe_iff, Nat.cast_lt]

/-- also weakly. -/
theorem place_le {a b : ℕ} : place a ≤ place b ↔ a ≤ b := by
  rw [EReal.coe_le_coe_iff, Nat.cast_le]

/-- `v` is the first place where `f` is least, and `f` is below `⊤` there. -/
def IsFirst (f : ℕ → EReal) (v : ℕ) : Prop :=
  f v < ⊤ ∧ ∀ u, f v ≤ f u ∧ (u < v → f v < f u)

/-- The place is the same for a sequence ordered the same way. -/
theorem IsFirst.of_order {f g : ℕ → EReal} {v : ℕ} (h : IsFirst f v) (hlt : ∀ u w, f u < f w → g u < g w)
    (hle : ∀ u w, f u ≤ f w → g u ≤ g w) (htop : g v < ⊤) : IsFirst g v :=
  ⟨htop, fun u => ⟨hle _ _ (h.2 u).1, fun hu => hlt _ _ ((h.2 u).2 hu)⟩⟩

/-- One comparison: a running (minimum, position) pair is replaced when the newcomer is strictly smaller. -/
def better (p : EReal × EReal) (d g : EReal) : EReal × EReal :=
  (if d < p.1 then d else p.1, if d < p.1 then g else p.2)

/-- What the running pair of residue `l` holds after `n` rounds: nothing yet, all values met having been `⊤`, or the first
    smallest value met and its position. -/
def Best (f : ℕ → EReal) (l n : ℕ) (p : EReal × EReal) : Prop :=
  (p = (⊤, 0) ∧ ∀ J < n, f (128 * J + l) = ⊤) ∨
    ∃ J < n, p = (f (128 * J + l), place (128 * J + l)) ∧ f (128 * J + l) < ⊤ ∧
      ∀ J' < n, f (128 * J + l) ≤ f (128 * J' + l) ∧ (J' < J → f (128 * J + l) < f (128 * J' + l))

/-- Before any step a lane holds `⊤`, the least value of nothing. -/
theorem Best.zero (f : ℕ → EReal) (l : ℕ) : Best f l 0 (⊤, 0) :=
  .inl ⟨rfl, fun _ h => absurd h (Nat.not_lt_zero _)⟩

/-- One more round. -/
theorem Best.step {f : ℕ → EReal} {l n : ℕ} {p : EReal × EReal} (h : Best f l n p) :
    Best f l (n + 1) (better p (f (128 * n + l)) (place (128 * n + l))) := by
  rcases h with ⟨rfl, ht⟩ | ⟨J, hJ, rfl, hfin, hmin⟩
  · by_cases hd : f (128 * n + l) < ⊤
    · refine .inr ⟨n, Nat.lt_succ_self n, by simp [better, hd], hd, fun J' hJ' => ?_⟩
      rcases Nat.lt_succ_iff_lt_or_eq.1 hJ' with h | rfl
      · rw [ht J' h]; exact ⟨le_top, fun _ => hd⟩
      · exact ⟨le_refl _, fun h => absurd h (lt_irrefl _)⟩
    · have hd' : f (128 * n + l) = ⊤ := not_lt_top_iff.1 hd
      refine .inl ⟨by simp [better, hd'], fun J' hJ' => ?_⟩
      rcases Nat.lt_succ_iff_lt_or_eq.1 hJ' with h | rfl
      · exact ht J' h
      · exact hd'
  · by_cases hd : f (128 * n + l) < f (128 * J + l)
    · refine .inr ⟨n, Nat.lt_succ_self n, by simp [better, hd], hd.trans hfin, fun J' hJ' => ?_⟩
      rcases Nat.lt_succ_iff_lt_or_eq.1 hJ' with h | rfl
      · have := hd.trans_le (hmin J' h).1
        exact ⟨this.le, fun _ => this⟩
      · exact ⟨le_refl _, fun h => absurd h (lt_irrefl _)⟩
    · refine .inr ⟨J, hJ.trans (Nat.lt_succ_self n), by simp [better, hd], hfin, fun J' hJ' => ?_⟩
      rcases Nat.lt_succ_iff_lt_or_eq.1 hJ' with h | rfl
      · exact hmin J' h
      · exact ⟨not_lt.1 hd, fun h => absurd h (not_lt.2 hJ.le)⟩

/-- Several rounds, listed. -/
theorem Best.rounds {f : ℕ → EReal} {l : ℕ} : ∀ (k : ℕ) {n : ℕ} {p : EReal × EReal}, Best f l n p →
    Best f l (n + k) ((List.range' n k).foldl (fun q J => better q (f (128 * J + l)) (place (128 * J + l))) p)
  | 0, _, _, h => h
  | k + 1, n, p, h => by
    have := Best.rounds k h.step
    rw [List.range'_succ, List.foldl_cons]
    rwa [show n + (k + 1) = n + 1 + k by omega]

/-- The running minimum of a residue is below everything that residue has met. -/
theorem Best.le {f : ℕ → EReal} {l n : ℕ} {p : EReal × EReal} (h : Best f l n p) {J : ℕ} (hJ : J < n) :
    p.1 ≤ f (128 * J + l) := by
  rcases h with ⟨rfl, ht⟩ | ⟨J₀, _, rfl, _, hmin⟩
  · exact (ht J hJ).ge
  · exact (hmin J hJ).1

/-- A finite fold of `min` from `⊤` is below each entry, and is `⊤` or one of them. -/
theorem inf_mem {ι : Type} [Fintype ι] (g : ι → EReal) (h : Finset.univ.inf g < ⊤) : ∃ i, Finset.univ.inf g = g i := by
  by_contra hne
  push Not at hne
  have : ∀ s : Finset ι, s.inf g = ⊤ ∨ ∃ i ∈ s, s.inf g = g i := by
    classical
    intro s
    induction s using Finset.induction_on with
    | empty => exact .inl rfl
    | insert a s _ ih =>
      rw [Finset.inf_insert]
      rcases le_total (g a) (s.inf g) with hle | hle
      · exact .inr ⟨a, Finset.mem_insert_self _ _, inf_eq_left.2 hle⟩
      · rw [inf_eq_right.2 hle]
        exact ih.imp_right fun ⟨i, hi, e⟩ => ⟨i, Finset.mem_insert_of_mem hi, e⟩
  rcases this Finset.univ with ht | ⟨i, _, e⟩
  · exact absurd ht h.ne
  · exact hne i e

/-- The selection at the end. Every residue holds what `Best` says after `n` rounds and nothing below `⊤` lies beyond. Among
    the residues whose minimum is the overall minimum, the least position is the first place where the sequence is least. -/
theorem winner {f : ℕ → EReal} {n : ℕ} (p : Fin 128 → EReal × EReal) (h : ∀ l, Best f l.val n (p l))
    (hbeyond : ∀ u, 128 * n ≤ u → f u = ⊤) (hsome : ∃ u, f u < ⊤) :
    ∃ v, IsFirst f v ∧
      Finset.univ.inf (fun l => if (p l).1 = Finset.univ.inf (fun l => (p l).1) then (p l).2 else ⊤) = place v := by
  set bmin := Finset.univ.inf (fun l => (p l).1) with hb
  -- the overall minimum is below every entry
  have hle : ∀ u, bmin ≤ f u := fun u => by
    rcases Nat.lt_or_ge u (128 * n) with hu | hu
    · have hl : u % 128 < 128 := Nat.mod_lt _ (by norm_num)
      have h1 := (h ⟨u % 128, hl⟩).le (J := u / 128) (by omega)
      have h2 : bmin ≤ (p ⟨u % 128, hl⟩).1 := Finset.inf_le (f := fun l => (p l).1) (Finset.mem_univ _)
      have h3 : 128 * (u / 128) + u % 128 = u := Nat.div_add_mod u 128
      simp only [h3] at h1
      exact h2.trans h1
    · rw [hbeyond u hu]; exact le_top
  have htop : bmin < ⊤ := let ⟨u, hu⟩ := hsome; (hle u).trans_lt hu
  -- a residue at the minimum names its place
  have hat : ∀ l, (p l).1 = bmin → ∃ J, (p l).2 = place (128 * J + l.val) ∧ f (128 * J + l.val) = bmin ∧
      ∀ J', J' < n → J' < J → bmin < f (128 * J' + l.val) := fun l hl => by
    rcases h l with ⟨e, _⟩ | ⟨J, _, e, _, hmin⟩
    · rw [e] at hl; exact absurd hl.symm htop.ne
    · rw [e] at hl
      refine ⟨J, by rw [e], hl, fun J' hJ' hlt => ?_⟩
      have := (hmin J' hJ').2 hlt
      exact lt_of_eq_of_lt hl.symm this
  obtain ⟨l₀, hl₀⟩ := inf_mem (fun l => (p l).1) htop
  set pick : Fin 128 → EReal := fun l => if (p l).1 = bmin then (p l).2 else ⊤ with hpick
  have hwin : Finset.univ.inf pick < ⊤ := by
    refine (Finset.inf_le (f := pick) (Finset.mem_univ l₀)).trans_lt ?_
    obtain ⟨J, e, _⟩ := hat l₀ hl₀.symm
    rw [hpick]; dsimp only
    rw [if_pos hl₀.symm, e]
    exact EReal.coe_lt_top _
  obtain ⟨l₁, hl₁⟩ := inf_mem pick hwin
  have hl₁' : (p l₁).1 = bmin := by
    by_contra hne
    rw [hl₁, hpick] at hwin
    dsimp only at hwin
    rw [if_neg hne] at hwin
    exact lt_irrefl _ hwin
  obtain ⟨J, e, hf, _⟩ := hat l₁ hl₁'
  have hval : Finset.univ.inf pick = place (128 * J + l₁.val) := by
    rw [hl₁, hpick]; dsimp only
    rw [if_pos hl₁', e]
  refine ⟨128 * J + l₁.val, ⟨by rw [hf]; exact htop, fun u => ⟨by rw [hf]; exact hle u, fun hu => ?_⟩⟩, hval⟩
  rw [hf]
  refine lt_of_le_of_ne (hle u) fun heq => ?_
  have hun : u < 128 * n := by
    by_contra hge
    rw [hbeyond u (not_lt.1 hge)] at heq
    exact htop.ne heq
  have hlt : u % 128 < 128 := Nat.mod_lt _ (by norm_num)
  have h3 : 128 * (u / 128) + u % 128 = u := Nat.div_add_mod u 128
  have h4 : (p ⟨u % 128, hlt⟩).1 = bmin := by
    refine le_antisymm ?_ (Finset.inf_le (f := fun l => (p l).1) (Finset.mem_univ _))
    have h1 := (h ⟨u % 128, hlt⟩).le (J := u / 128) (by omega)
    simp only [h3] at h1
    rwa [← heq] at h1
  obtain ⟨J₂, e₂, _, hbelow⟩ := hat _ h4
  have hJ₂ : J₂ ≤ u / 128 := by
    by_contra hgt
    have := hbelow (u / 128) (by omega) (not_le.1 hgt)
    simp only [h3] at this
    exact this.ne heq
  have h5 : Finset.univ.inf pick ≤ place (128 * J₂ + u % 128) := by
    refine (Finset.inf_le (f := pick) (Finset.mem_univ ⟨u % 128, hlt⟩)).trans ?_
    rw [hpick]; dsimp only
    rw [if_pos h4, e₂]
  rw [hval, place_le] at h5
  omega

/-- A fold by a selection `s` that returns one of its two arguments, and never the later of them in an order `R`, returns an
    entry that is no later than any. -/
theorem foldl_least {α : Type} (R : α → α → Prop) (hrefl : ∀ a, R a a) (htrans : ∀ a b c, R a b → R b c → R a c)
    (s : α → α → α) (hs : ∀ a b, s a b = a ∨ s a b = b) (hl : ∀ a b, R (s a b) a) (hr : ∀ a b, R (s a b) b) :
    ∀ (l : List α) (a : α), (l.foldl s a = a ∨ l.foldl s a ∈ l) ∧ R (l.foldl s a) a ∧ ∀ b ∈ l, R (l.foldl s a) b
  | [], a => ⟨.inl rfl, hrefl a, fun _ h => absurd h List.not_mem_nil⟩
  | b :: l, a => by
    obtain ⟨h1, h2, h3⟩ := foldl_least R hrefl htrans s hs hl hr l (s a b)
    refine ⟨?_, htrans _ _ _ h2 (hl a b), fun c hc => ?_⟩
    · rcases h1 with e | hmem
      · rw [List.foldl_cons, e]
        rcases hs a b with e' | e' <;> rw [e']
        · exact .inl rfl
        · exact .inr List.mem_cons_self
      · exact .inr (List.mem_cons_of_mem _ hmem)
    · rcases List.mem_cons.1 hc with rfl | hc
      · exact htrans _ _ _ h2 (hr a c)
      · exact h3 c hc

end Cert.Proof

end
-- ==== Proof.Elements.lean ====
/-
  The kernel's vectors read at one query and one lane, over the extended reals: a chunk's distance, a row's number, one
  comparison, the queries' part of the first point, and the selection at the end.
-/
module

public import proofs.«01_k».proof.Proof.Points
public import proofs.«01_k».proof.Proof.Tournament
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain

@[expose] public section

noncomputable section

namespace Cert.Proof

open Cert.KernelIdeal Cert.KernelIdeal.Gen
open Idealize.ShloMosaic Idealize.ShloMosaic.ValueIdx

/-! ## The constants -/

/-- The words of the sixteen chunks hold `128·k`. -/
theorem word_eq : ∀ ch ∈ chunks16, Ideal.ofBits .f32 ch.word = place (128 * ch.k) := by
  simp only [chunks16, chunksA, chunksB, chunksC, chunksD, chunksE, chunk11, chunk12, chunk13, List.cons_append, List.nil_append,
    List.forall_mem_cons]
  refine ⟨?_, ?_, ?_, ?_, ?_, ?_, ?_, ?_, ?_, ?_, ?_, ?_, ?_, ?_, ?_, ?_, ?_⟩
  all_goals first
    | (intro _ h; exact absurd h List.not_mem_nil)
    | (simp [Ideal.ofBits, Ideal.ieee, place, -EReal.coe_mul]; done)
    | (simp only [place]; simp [Ideal.ofBits, Ideal.ieee, -EReal.coe_mul]; norm_num)

/-- The word of the number of rows in the table's last chunk holds 32. -/
theorem word_32 : Ideal.ofBits .f32 0x42000000#32 = place 32 := by
  simp [Ideal.ofBits, Ideal.ieee, place, -EReal.coe_mul]; norm_num

/-- The word of the largest float value holds `⊤`. -/
theorem word_top : Ideal.ofBits .f32 0x7F800000#32 = ⊤ := by
  simp [Ideal.ofBits, Ideal.ieee, -EReal.coe_mul]

/-- The zero word holds 0. -/
theorem word_zero : Ideal.ofBits .f32 0x00000000#32 = 0 := by
  simp [Ideal.ofBits, Ideal.ieee, -EReal.coe_mul]

/-- The word of the factor on the queries holds −2. -/
theorem word_neg2 : Ideal.ofBits .f32 0xC0000000#32 = ((-2 : ℝ) : EReal) := by
  simp [Ideal.ofBits, Ideal.ieee, -EReal.coe_mul]; norm_num

/-- A 32-bit word below `2³¹`, converted, is its number. -/
theorem sitofp_small (n : ℕ) (h : n < 2147483648) : FloatOps.sitofp (F := Ideal) .f32 (BitVec.ofNat 32 n) = place n := by
  show (((BitVec.ofNat 32 n).toInt : ℝ) : EReal) = ((n : ℝ) : EReal)
  have : (BitVec.ofNat 32 n).toInt = (n : ℤ) := by
    rw [BitVec.toInt_eq_toNat_of_lt] <;> rw [BitVec.toNat_ofNat] <;> omega
  rw [this]; rfl

/-- The number converted back is its word. -/
theorem fptosi_place (n : ℕ) (h : n < 2147483648) : FloatOps.fptosi (F := Ideal) (φ := .f32) 32 (place n) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast, min_eq_right (by norm_num; omega), max_eq_right (by norm_num)]
  exact BitVec.ofInt_natCast 32 n

/-! ## Broadcasts and reductions at an index -/

/-- A column broadcast along the lanes. -/
theorem bcast_col {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum of a matrix's rows. -/
theorem rowSum {a b : ℕ} (x : FVec Ideal ⟨2, ![a, b]⟩ .f32) (w : BitVec 32)
    (h : (⟨2, ![a, b]⟩ : Shape).Reduces [1] ⟨1, ![a]⟩) (hφ : FKind.Formats .f32) (hacc : w = FKind.add.neutral .f32 hφ) (p : Fin a) :
    multiReduction .add [1] ⟨1, ![a]⟩ x w h hφ hacc (ix1 p) = ∑ k : Fin b, x (ix2 p k) := by
  rw [Ideal.multiReduction_add_single]
  refine Finset.sum_congr rfl fun k _ => congrArg x ?_
  funext ax; apply Fin.ext
  match ax with
  | ⟨0, _⟩ => rfl
  | ⟨1, _⟩ => rfl

/-- The least entry of a matrix's rows. -/
theorem rowMin {a b : ℕ} (x : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ x 0x7F800000#32 h hφ hacc (ix1 p) = Finset.univ.inf fun k : Fin b => x (ix2 p k) := by
  rw [multiReduction_minimumf_eq_fold]
  refine (h.fold_filter_drop_single _ _ x (ix1 p)).trans ?_
  show Finset.fold min (Ideal.ofBits .f32 0x7F800000#32) _ _ = _
  rw [word_top]
  refine congrArg (fun g => Finset.fold min ⊤ g Finset.univ) (funext fun k => congrArg x ?_)
  funext ax; apply Fin.ext
  match ax with
  | ⟨0, _⟩ => rfl
  | ⟨1, _⟩ => rfl

/-! ## One chunk -/

/-- Column `128·k + l` of a block. -/
def Chunk.col (ch : Chunk) (l : Fin 128) : Fin 2048 :=
  ⟨128 * ch.k + l.val, by have := ch.mat.2 1; have h2 : 128 * ch.k + 128 ≤ 2048 := this; have := l.isLt; omega⟩

/-- A chunk's distance. -/
theorem dist_apply (ch : Chunk) (t2 : FVec Ideal S1x2048 .f32) (pr : FVec Ideal S1024x2048 .f32) (q2 : FVec Ideal S1024x1 .f32)
    (r : Fin 1024) (l : Fin 128) :
    ch.dist t2 pr q2 (ix2 r l) = q2 (ix2 r (0 : Fin 1)) + t2 (ix2 (0 : Fin 1) (ch.col l)) + pr (ix2 r (ch.col l)) := by
  unfold Chunk.dist
  rw [addf_apply, addf_apply, bcast_col, broadcastTo_1b_ab_apply, slice2_axis1_apply _ _ _ _ _ (ch.col l) rfl,
    slice2_axis1_apply _ _ _ _ _ (ch.col l) rfl]

/-- A chunk's row number. -/
theorem pos_apply (ch : Chunk) (lanes : FVec Ideal S1x128 .f32) (base : Ideal .f32) (r : Fin 1024) (l : Fin 128) :
    ch.pos lanes base (ix2 r l) = lanes (ix2 (0 : Fin 1) l) + ((base : EReal) + Ideal.ofBits .f32 ch.word) := by
  unfold Chunk.pos
  rw [broadcastTo_1b_ab_apply, shapeCast_self, addf_apply, broadcast_apply]
  rfl

/-- One comparison. -/
theorem step_apply (p : FVec Ideal S1024x128 .f32 × FVec Ideal S1024x128 .f32) (d g : FVec Ideal S1024x128 .f32) (j : S1024x128.Idx) :
    ((step p d g).1 j, (step p d g).2 j) = better (p.1 j, p.2 j) (d j) (g j) := by
  unfold step better
  dsimp only
  rw [select_apply, select_apply, cmpf_apply]
  show (Scalar.select (BitVec.ofBool (decide (d j < p.1 j))) _ _, Scalar.select (BitVec.ofBool (decide (d j < p.1 j))) _ _) = _
  by_cases h : d j < p.1 j
  · simp only [h, decide_true, if_true]; rfl
  · simp only [h, decide_false, if_false]; rfl

/-- A list of chunks, at one query and lane. -/
theorem sweep_apply (t2 : FVec Ideal S1x2048 .f32) (pr : FVec Ideal S1024x2048 .f32) (q2 : FVec Ideal S1024x1 .f32)
    (lanes : FVec Ideal S1x128 .f32) (base : Ideal .f32) (j : S1024x128.Idx) :
    ∀ (l : List Chunk) (p : FVec Ideal S1024x128 .f32 × FVec Ideal S1024x128 .f32),
      ((sweep t2 pr q2 lanes base p l).1 j, (sweep t2 pr q2 lanes base p l).2 j)
        = l.foldl (fun q ch => better q (ch.dist t2 pr q2 j) (ch.pos lanes base j)) (p.1 j, p.2 j)
  | [], _ => rfl
  | ch :: l, p => by
    rw [List.foldl_cons, ← step_apply]
    exact sweep_apply t2 pr q2 lanes base j l _

/-- The last block's chunk 13: past its 32 rows, `⊤`. -/
theorem lastDist_apply (t2 : FVec Ideal S1x2048 .f32) (pr : FVec Ideal S1024x2048 .f32) (q2 : FVec Ideal S1024x1 .f32)
    (lanes : FVec Ideal S1x128 .f32) (hl : ∀ l : Fin 128, lanes (ix2 (0 : Fin 1) l) = place l.val) (r : Fin 1024) (l : Fin 128) :
    lastDist t2 pr q2 lanes (ix2 r l) = if l.val < 32 then chunk13.dist t2 pr q2 (ix2 r l) else ⊤ := by
  unfold lastDist
  rw [select_apply, broadcastTo_1b_ab_apply, shapeCast_self, cmpf_apply, broadcast_apply, broadcast_apply, hl]
  show Scalar.select (BitVec.ofBool (decide (place l.val < Ideal.ofBits .f32 0x42000000#32))) _ (Ideal.ofBits .f32 0x7F800000#32) = _
  rw [word_32, word_top]
  by_cases h : l.val < 32
  · rw [if_pos h, decide_eq_true (place_lt.2 h)]; rfl
  · rw [if_neg h, decide_eq_false (fun h' => h (place_lt.1 h'))]; rfl

/-! ## The block's arrays -/

/-- The squared norms of a block's rows. -/
theorem norms_apply (x : Vec Ideal S2048x128 .f32) (n : Fin 2048) :
    (k0_pay2 x : FVec Ideal S1x2048 .f32) (ix2 (0 : Fin 1) n) = ∑ d : Fin 128, (x (ix2 n d) : EReal) * x (ix2 n d) := by
  unfold k0_pay2 k0_pay1
  dsimp only
  rw [transpose_ix2_apply, shapeCast_a_a1_apply, shapeCast_self]
  exact rowSum (a := 2048) (b := 128) _ _ _ _ _ n

/-- The products of the doubled queries with a block's rows. -/
theorem prods_apply (x : Vec Ideal S2048x128 .f32) (y : Vec Ideal S1024x128 .f32) (r : Fin 1024) (n : Fin 2048) :
    (k0_pay3 x y : FVec Ideal S1024x2048 .f32) (ix2 r n) = ∑ d : Fin 128, (y (ix2 r d) : EReal) * x (ix2 n d) := by
  unfold k0_pay3 k0_pay1
  dsimp only
  rw [shapeCast_self]
  refine (Ideal.matmul_transposedRhs_apply none y x (constant S1024x2048 .f32 0x00000000#32) r n).trans ?_
  show Ideal.ofBits .f32 0x00000000#32 + _ = _
  rw [word_zero, zero_add]

/-- The first row of the table that point `i` meets, as a float. -/
theorem base_eq (i : grid0.Coords) (h : (i 0).val < 49) : (k0_pay4 i : Ideal .f32) = place (2048 * (i 0).val) := by
  unfold k0_pay4
  dsimp only
  show FloatOps.sitofp (F := Ideal) .f32 (BitVec.ofNat 32 (i 0).val * 2048#32) = _
  rw [show BitVec.ofNat 32 (i 0).val * 2048#32 = BitVec.ofNat 32 (2048 * (i 0).val) from by
    rw [mul_comm 2048, BitVec.ofNat_mul], sitofp_small _ (by omega)]

/-- The queries after the shift and the scaling. -/
def query (x : Vec Ideal S1024x128 .f32) (b w : Vec Ideal S1x128 .f32) (r : Fin 1024) (d : Fin 128) : EReal :=
  Ideal.div ((x (ix2 r d) : EReal) - b (ix2 (0 : Fin 1) d)) ((w (ix2 (0 : Fin 1) d) : EReal) + Ideal.ofBits .f32 0x358637BD#32)

/-- A query's entry: the shifted embedding over the weight and the small constant. -/
theorem query_apply (x : Vec Ideal S1024x128 .f32) (b w : Vec Ideal S1x128 .f32) (r : Fin 1024) (d : Fin 128) :
    (k0_pay9 x b w : FVec Ideal S1024x128 .f32) (ix2 r d) = query x b w r d := by
  unfold k0_pay9
  rw [divf_apply, subf_apply, broadcastTo_1b_ab_apply, broadcastTo_1b_ab_apply, shapeCast_self, addf_apply, shapeCast_self]
  rfl

/-- The doubled queries. -/
theorem doubled_apply (x : Vec Ideal S1024x128 .f32) (b w : Vec Ideal S1x128 .f32) (r : Fin 1024) (d : Fin 128) :
    (k0_pay10 x b w : FVec Ideal S1024x128 .f32) (ix2 r d) = ((-2 : ℝ) : EReal) * query x b w r d := by
  unfold k0_pay10
  rw [shapeCast_self, mulf_apply, query_apply, ← word_neg2]
  rfl

/-- The queries' squared norms. -/
theorem qnorm_apply (x : Vec Ideal S1024x128 .f32) (b w : Vec Ideal S1x128 .f32) (r : Fin 1024) :
    (k0_pay11 x b w : FVec Ideal S1024x1 .f32) (ix2 r (0 : Fin 1)) = ∑ d : Fin 128, query x b w r d * query x b w r d := by
  unfold k0_pay11
  dsimp only
  rw [shapeCast_self, shapeCast_a_a1_apply]
  refine (rowSum (a := 1024) (b := 128) _ _ _ _ _ r).trans ?_
  exact Finset.sum_congr rfl fun d _ => by rw [mulf_apply, query_apply]

/-- The running minima begin at `⊤`. -/
theorem top_apply (j : S1024x128.Idx) : (k0_pay12 : FVec Ideal S1024x128 .f32) j = ⊤ := by
  unfold k0_pay12
  rw [shapeCast_self, broadcast_apply]
  exact word_top

/-- The running positions begin at 0. -/
theorem zero_apply (j : S1024x128.Idx) : (k0_pay13 : FVec Ideal S1024x128 .f32) j = 0 := by
  unfold k0_pay13
  rw [shapeCast_self, broadcast_apply]
  exact word_zero

/-- The lanes' numbers. -/
theorem lane_apply (l : Fin 128) : (k0_pay14 : FVec Ideal S1x128 .f32) (ix2 (0 : Fin 1) l) = place l.val := by
  unfold k0_pay14
  dsimp only
  rw [shapeCast_self, sitofp_apply, iota_single_apply]
  exact sitofp_small _ (by have := l.isLt; show l.val < _; omega)

/-- The selection at the end: the least position among the lanes at the row's minimum, as a word. -/
theorem pick_apply (v g : Vec Ideal S1024x128 .f32) (r : Fin 1024) :
    (k0_pay8 v g : IVec S1024x1 32) (ix2 r (0 : Fin 1)) = FloatOps.fptosi (F := Ideal) (φ := .f32) 32
      (Finset.univ.inf fun l : Fin 128 =>
        if (v (ix2 r l) : EReal) = Finset.univ.inf (fun l : Fin 128 => (v (ix2 r l) : EReal)) then (g (ix2 r l) : EReal) else ⊤) := by
  unfold k0_pay8
  dsimp only
  show FloatOps.fptosi (F := Ideal) (φ := .f32) 32 (shapeCast S1024x1 _ _ (ix2 r (0 : Fin 1))) = _
  rw [shapeCast_a_a1_apply]
  refine congrArg _ ((rowMin (a := 1024) (b := 128) _ _ _ _ r).trans (congrArg (fun f => Finset.univ.inf f) (funext fun l => ?_)))
  rw [select_apply, cmpf_apply, bcast_col, shapeCast_a_a1_apply, broadcast_apply]
  refine (congrArg (fun t => Scalar.select (Ideal.cmp .oeq (v (ix2 r l)) t) (g (ix2 r l) : EReal) (Ideal.ofBits .f32 0x7F800000#32))
    (rowMin (a := 1024) (b := 128) v _ _ _ r)).trans ?_
  show Scalar.select (BitVec.ofBool (decide ((v (ix2 r l) : EReal) = _))) (g (ix2 r l) : EReal) (Ideal.ofBits .f32 0x7F800000#32) = _
  rw [word_top]
  split
  · next h => rw [decide_eq_true h]; rfl
  · next h => rw [decide_eq_false h]; rfl

end Cert.Proof

end
-- ==== Proof.Blocks.lean ====
/-
  What the kernel's input windows hold at each point of the grid: the queries, the weights and the shifts as rows, and
  2048 rows of the table continued by rows of zeros.
-/
module

public import proofs.«01_k».proof.Proof.Elements
public import Idealize.ShloMosaic.Lib.KernelVsHost

@[expose] public section

noncomputable section

namespace Cert.Proof

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- Before the launch the weights are laid out as a row, -/
theorem weights_row : V m c main_call0_v1 = shapeCast S1x128 (m ((c : Thread nD τ).loc main_arg1) : Vec Ideal S128 .f32) shapeCasts_S128_S1x128 := by
  show StableHlo.after (hostOps0) (fun b => m (c, b)) (Proc.devRef .tc main_call0_v1) = _
  after_results
  rfl

/-- and so are the shifts; -/
theorem shifts_row : V m c main_call0_v2 = shapeCast S1x128 (m ((c : Thread nD τ).loc main_arg2) : Vec Ideal S128 .f32) shapeCasts_S128_S1x128 := by
  show StableHlo.after (hostOps0) (fun b => m (c, b)) (Proc.devRef .tc main_call0_v2) = _
  after_results
  rfl

/-- the table is continued by rows of zeros. -/
theorem padded_table : V m c main_call0_v0 = pad S100352x128 ![0, 0] ![352, 0] ![0, 0] (m ((c : Thread nD τ).loc main_arg3) : Vec Ideal S100000x128 .f32)
    (sitofp .f32 (constantI S_ 32 0#32) : FVec Ideal S_ .f32) pads_S100000x128_S100352x128_03520_000 h_S_ := by
  show StableHlo.after (hostOps0) (fun b => m (c, b)) (Proc.devRef .tc main_call0_v0) = _
  after_results
  rfl

/-- Row `v` of the table continued by zeros. -/
def row (tab : Vec Ideal S100000x128 .f32) (v : ℕ) (d : Fin 128) : EReal :=
  if h : v < 100000 then tab (ix2 ⟨v, h⟩ d) else 0

/-- The padded table at row `v`: the table's row, or zeros past its end. -/
theorem padded_apply (v : Fin 100352) (d : Fin 128) :
    (V m c main_call0_v0 : FVec Ideal S100352x128 .f32) (ix2 v d) = row (m ((c : Thread nD τ).loc main_arg3)) v.val d := by
  rw [padded_table]
  unfold row
  split
  · next h =>
    refine pad_apply_of_inside _ _ _ _ _ _ _ (ix2 v d) (ix2 ⟨v.val, h⟩ d) fun ax => ?_
    match ax with
    | ⟨0, _⟩ => show v.val = 0 + v.val * (0 + 1); omega
    | ⟨1, _⟩ => show d.val = 0 + d.val * (0 + 1); omega
  · next h =>
    refine (pad_apply_of_not_inside _ _ _ _ _ _ _ (ix2 v d) (⟨0, by decide⟩ : Fin 2) ?_).trans ?_
    · rintro ⟨-, -, h3⟩
      have h4 : (v.val - 0) / (0 + 1) < 100000 := h3
      omega
    · exact (sitofp_small 0 (by norm_num)).trans (by simp [place])

/-- A point's only coordinate is its number. -/
theorem coords_val : ∀ t : Fin cfg0.N, (grid0.coords t 0).val = t.val := by decide +kernel

/-- The table's window at point `t` is block `t` of the rows. -/
theorem index3 : ∀ t : Fin cfg0.N, (cfg0.win 3).index t 0 = t.val ∧ (cfg0.win 3).index t 1 = 0 := by decide +kernel

/-- Point `t`'s block of the table: rows `2048·t + n`. -/
theorem block_table (t : Fin cfg0.N) (n : Fin 2048) (d : Fin 128) :
    (iblk m c 3 t : Vec Ideal S2048x128 .f32) (ix2 n d) = row (m ((c : Thread nD τ).loc main_arg3)) (2048 * t.val + n.val) d := by
  have ht : t.val < 49 := t.isLt
  refine Eq.trans ?_ (padded_apply m c ⟨2048 * t.val + n.val, by have := n.isLt; omega⟩ d)
  unfold iblk
  refine congrArg (V m c main_call0_v0) (funext fun ax => Fin.ext ?_)
  match ax with
  | ⟨0, _⟩ =>
    refine (Pipeline.Window.rect_emb_val (cfg0.win 3) t (ix2 n d) 0).trans ?_
    rw [(index3 t).1, mul_comm]; rfl
  | ⟨1, _⟩ =>
    refine (Pipeline.Window.rect_emb_val (cfg0.win 3) t (ix2 n d) 1).trans ?_
    rw [(index3 t).2]; exact Nat.zero_add _

/-- The first point's block of the queries is all of them; -/
theorem block_queries (t : Fin cfg0.N) : (iblk m c 0 t : Vec Ideal S1024x128 .f32) = m ((c : Thread nD τ).loc main_arg0) := by
  refine Eq.trans ?_ (V_main_arg0 m c)
  funext i
  unfold iblk
  refine congrArg (V m c main_arg0) (funext fun ax => Fin.ext ?_)
  exact Pipeline.Window.rect_emb_val_of_index_zero (cfg0.win 0) t ax (by match ax with | ⟨0, _⟩ => rfl | ⟨1, _⟩ => rfl) i

/-- of the weights, the row of them; -/
theorem block_weights (t : Fin cfg0.N) (d : Fin 128) :
    (iblk m c 1 t : Vec Ideal S1x128 .f32) (ix2 (0 : Fin 1) d) = (m ((c : Thread nD τ).loc main_arg1) : Vec Ideal S128 .f32) (ix1 d) := by
  have h : (iblk m c 1 t : Vec Ideal S1x128 .f32) = V m c main_call0_v1 := by
    funext i
    unfold iblk
    refine congrArg (V m c main_call0_v1) (funext fun ax => Fin.ext ?_)
    exact Pipeline.Window.rect_emb_val_of_index_zero (cfg0.win 1) t ax (by match ax with | ⟨0, _⟩ => rfl | ⟨1, _⟩ => rfl) i
  rw [h, weights_row]
  exact shapeCast_a_1a_apply _ _ _ _

/-- of the shifts, the row of them. -/
theorem block_shifts (t : Fin cfg0.N) (d : Fin 128) :
    (iblk m c 2 t : Vec Ideal S1x128 .f32) (ix2 (0 : Fin 1) d) = (m ((c : Thread nD τ).loc main_arg2) : Vec Ideal S128 .f32) (ix1 d) := by
  have h : (iblk m c 2 t : Vec Ideal S1x128 .f32) = V m c main_call0_v2 := by
    funext i
    unfold iblk
    refine congrArg (V m c main_call0_v2) (funext fun ax => Fin.ext ?_)
    exact Pipeline.Window.rect_emb_val_of_index_zero (cfg0.win 2) t ax (by match ax with | ⟨0, _⟩ => rfl | ⟨1, _⟩ => rfl) i
  rw [h, shifts_row]
  exact shapeCast_a_1a_apply _ _ _ _

end Cert.Proof

end
-- ==== Proof.Search.lean ====
/-
  What the launch computes: each query's running pairs, followed over the 49 points of the grid, end at the first row of
  the table whose distance is least.
-/
module

public import proofs.«01_k».proof.Proof.Blocks

@[expose] public section

noncomputable section

namespace Cert.Proof

open Cert.KernelIdeal Cert.KernelIdeal.Gen Cert.KernelIdeal.Carried Cert.KernelIdeal.Value
open Idealize.ShloMosaic Idealize.ShloMosaic.TcCoe Idealize.ShloMosaic.ValueIdx

/-- Query `r`, shifted and scaled, from the argument arrays. -/
def queryOf (emb : Vec Ideal S1024x128 .f32) (w b : Vec Ideal S128 .f32) (r : Fin 1024) (d : Fin 128) : EReal :=
  Ideal.div ((emb (ix2 r d) : EReal) - b (ix1 d)) ((w (ix1 d) : EReal) + Ideal.ofBits .f32 0x358637BD#32)

/-- The distance of the query `y` from row `v`, as the kernel forms it: the squares of both, and the product with −2·y. -/
def distK (tab : Vec Ideal S100000x128 .f32) (y : Fin 128 → EReal) (v : ℕ) : EReal :=
  (∑ d, y d * y d) + (∑ d, row tab v d * row tab v d) + ∑ d, (((-2 : ℝ) : EReal) * y d) * row tab v d

/-- The same over all numbers: past the table's end it is `⊤`. -/
def farK (tab : Vec Ideal S100000x128 .f32) (y : Fin 128 → EReal) (v : ℕ) : EReal :=
  if v < 100000 then distK tab y v else ⊤

/-- The carried values after `n` rounds of 128 rows: the doubled queries, their squared norms, the lanes, and each lane's
    pair at the first least distance it met. -/
structure Holds (tab : Vec Ideal S100000x128 .f32) (y : Fin 1024 → Fin 128 → EReal) (n : ℕ) (s : Carry Ideal) : Prop where
  doubled : ∀ r d, (s.1 (ix2 r d) : EReal) = ((-2 : ℝ) : EReal) * y r d
  norm : ∀ r, (s.2.1 (ix2 r (0 : Fin 1)) : EReal) = ∑ d, y r d * y r d
  lanes : ∀ l : Fin 128, (s.2.2.2.2 (ix2 (0 : Fin 1) l) : EReal) = place l.val
  pair : ∀ r (l : Fin 128), Best (farK tab (y r)) l.val n (s.2.2.1 (ix2 r l), s.2.2.2.1 (ix2 r l))

/-- A block of the table: rows `2048·t + n`. -/
def IsBlock (tab : Vec Ideal S100000x128 .f32) (t : ℕ) (x : Vec Ideal S2048x128 .f32) : Prop :=
  ∀ n d, (x (ix2 n d) : EReal) = row tab (2048 * t + n.val) d

section Chunks

variable {tab : Vec Ideal S100000x128 .f32} {y : Fin 1024 → Fin 128 → EReal} {n : ℕ} {s : Carry Ideal}

/-- In block `t`, a chunk's distances are those of its 128 rows. -/
theorem chunk_dist (hs : Holds tab y n s) {t : ℕ} {x : Vec Ideal S2048x128 .f32} (hx : IsBlock tab t x) (ch : Chunk)
    (r : Fin 1024) (l : Fin 128) :
    ch.dist (k0_pay2 x) (k0_pay3 x s.1) s.2.1 (ix2 r l) = distK tab (y r) (128 * (16 * t + ch.k) + l.val) := by
  have hv : 2048 * t + (ch.col l).val = 128 * (16 * t + ch.k) + l.val := by
    show 2048 * t + (128 * ch.k + l.val) = _; ring
  have hrow : ∀ d, (x (ix2 (ch.col l) d) : EReal) = row tab (128 * (16 * t + ch.k) + l.val) d := fun d => by rw [hx, hv]
  rw [dist_apply, hs.norm, norms_apply, prods_apply]
  unfold distK
  simp only [hrow, hs.doubled]

/-- In block `t`, a chunk's row numbers. -/
theorem chunk_pos (hs : Holds tab y n s) {t : ℕ} (i : grid0.Coords) (hi : (i 0).val = t) (ht : t < 49) (ch : Chunk)
    (hch : ch ∈ chunks16) (r : Fin 1024) (l : Fin 128) :
    ch.pos (F := Ideal) s.2.2.2.2 (k0_pay4 i) (ix2 r l) = place (128 * (16 * t + ch.k) + l.val) := by
  rw [pos_apply, hs.lanes, base_eq i (by omega), word_eq ch hch, hi]
  unfold place
  rw [← EReal.coe_add, ← EReal.coe_add]
  congr 1
  push_cast
  ring

/-- A list of chunks wholly inside the table is that many rounds. -/
theorem chunks_pair (hs : Holds tab y n s) {t : ℕ} {x : Vec Ideal S2048x128 .f32} (hx : IsBlock tab t x) (i : grid0.Coords)
    (hi : (i 0).val = t) (ht : t < 49) (hn : n = 16 * t) (L : List Chunk) (hL : ∀ ch ∈ L, ch ∈ chunks16)
    (hk : L.map (·.k) = List.range L.length) (hin : 128 * (16 * t + L.length) ≤ 100000) (r : Fin 1024) (l : Fin 128) :
    Best (farK tab (y r)) l.val (n + L.length)
      ((sweep (k0_pay2 x) (k0_pay3 x s.1) s.2.1 s.2.2.2.2 (k0_pay4 i) (s.2.2.1, s.2.2.2.1) L).1 (ix2 r l),
        (sweep (k0_pay2 x) (k0_pay3 x s.1) s.2.1 s.2.2.2.2 (k0_pay4 i) (s.2.2.1, s.2.2.2.1) L).2 (ix2 r l)) := by
  have h := (hs.pair r l).rounds L.length
  rw [List.range'_eq_map_range, ← hk, List.map_map, List.foldl_map] at h
  rw [sweep_apply]
  refine Eq.mp (congrArg (Best _ _ _) (List.foldl_ext _ _ _ fun q ch hch => ?_)) h
  have hlt : ch.k < L.length := by
    have : ch.k ∈ L.map (·.k) := List.mem_map_of_mem hch
    rw [hk] at this
    exact List.mem_range.1 this
  have hl := l.isLt
  rw [chunk_dist hs hx, chunk_pos hs i hi ht ch (hL ch hch), hn]
  show better q (farK tab (y r) (128 * (16 * t + ch.k) + l.val)) (place (128 * (16 * t + ch.k) + l.val)) = _
  rw [farK, if_pos (by omega)]

end Chunks

section Points

variable {tab : Vec Ideal S100000x128 .f32} {y : Fin 1024 → Fin 128 → EReal} {s : Carry Ideal}

/-- There are sixteen chunks at a point before the last, -/
theorem chunks16_length : chunks16.length = 16 := rfl
/-- and thirteen whole ones at the last. -/
theorem chunks13_length : chunks13.length = 13 := rfl
/-- The chunks are listed in order. -/
theorem chunks16_k : chunks16.map (·.k) = List.range chunks16.length := rfl
@[inherit_doc chunks16_k]
theorem chunks13_k : chunks13.map (·.k) = List.range chunks13.length := rfl

/-- A point before the last is sixteen rounds. -/
theorem holds_carry16 {t : ℕ} (hs : Holds tab y (16 * t) s) {x : Vec Ideal S2048x128 .f32} (hx : IsBlock tab t x)
    (i : grid0.Coords) (hi : (i 0).val = t) (ht : t < 48) : Holds tab y (16 * (t + 1)) (carry16 i x s) where
  doubled := hs.doubled
  norm := hs.norm
  lanes := hs.lanes
  pair r l := by
    have h := chunks_pair hs hx i hi (by omega) rfl chunks16 (fun _ h => h) chunks16_k (by rw [chunks16_length]; omega) r l
    rw [chunks16_length, show 16 * t + 16 = 16 * (t + 1) by ring] at h
    unfold carry16
    dsimp only
    exact h

/-- The last point is fourteen: thirteen whole, and one where the table ends after 32 rows. -/
theorem best_last14 (hs : Holds tab y (16 * 48) s) {x : Vec Ideal S2048x128 .f32} (hx : IsBlock tab 48 x)
    (i : grid0.Coords) (hi : (i 0).val = 48) (r : Fin 1024) (l : Fin 128) :
    Best (farK tab (y r)) l.val 782 ((last14 i x s).1 (ix2 r l), (last14 i x s).2 (ix2 r l)) := by
  have h13 := chunks_pair hs hx i hi (by omega) rfl chunks13
    (fun ch h => by
      simp only [chunks13, chunks16, chunksD, List.mem_append, List.mem_cons, List.not_mem_nil, or_false] at h ⊢
      tauto) chunks13_k (by rw [chunks13_length]; omega) r l
  rw [chunks13_length] at h13
  have h14 := Best.step h13
  unfold last14
  rw [step_apply]
  have hmem : chunk13 ∈ chunks16 := by simp [chunks16, chunksD]
  have hd : lastDist (k0_pay2 x) (k0_pay3 x s.1) s.2.1 s.2.2.2.2 (ix2 r l) = farK tab (y r) (128 * (16 * 48 + 13) + l.val) := by
    rw [lastDist_apply _ _ _ _ hs.lanes, chunk_dist hs hx]
    unfold farK
    refine if_congr ⟨fun h => by omega, fun h => by omega⟩ rfl rfl
  rw [hd, chunk_pos hs i hi (by omega) chunk13 hmem r l]
  exact h14

variable (m : (ℓ : Loc nD τ sig) → Buf (Elt Ideal) ℓ) (c : Dev nD)

/-- The table, as the launch finds it. -/
abbrev tabOf : Vec Ideal S100000x128 .f32 := m ((c : Thread nD τ).loc main_arg3)

/-- The queries, from the arrays the launch finds. -/
abbrev yOf : Fin 1024 → Fin 128 → EReal :=
  queryOf (m ((c : Thread nD τ).loc main_arg0)) (m ((c : Thread nD τ).loc main_arg1)) (m ((c : Thread nD τ).loc main_arg2))

/-- The staged block at point `t` is block `t` of the table. -/
theorem isBlock (t : Fin cfg0.N) : IsBlock (tabOf m c) t.val (iblk m c 3 t) := fun n d => block_table m c t n d

/-- The first point fills the carried buffers. -/
theorem holds_init (t : Fin cfg0.N) : Holds (tabOf m c) (yOf m c) 0 (carryInit (iblk m c 0 t) (iblk m c 2 t) (iblk m c 1 t)) := by
  have hq : ∀ r d, query (iblk m c 0 t) (iblk m c 2 t) (iblk m c 1 t) r d = yOf m c r d := fun r d => by
    unfold query
    rw [block_queries, block_shifts, block_weights]
    rfl
  refine ⟨fun r d => (doubled_apply _ _ _ r d).trans (by rw [hq]), fun r => (qnorm_apply _ _ _ r).trans (by simp only [hq]),
    lane_apply, fun r l => ?_⟩
  show Best _ _ _ ((k0_pay12 : FVec Ideal S1024x128 .f32) (ix2 r l), (k0_pay13 : FVec Ideal S1024x128 .f32) (ix2 r l))
  rw [top_apply, zero_apply]
  exact Best.zero _ _

/-- After point `n` the carried buffers have met the rows of the first `n + 1` blocks. -/
theorem holds_outs : ∀ (n : ℕ) (hn : n < cfg0.N), n < 48 → Holds (tabOf m c) (yOf m c) (16 * (n + 1)) (outsAt0 m c n hn).2
  | 0, hn, _ => by
    rw [outsAt0_zero, point_first m c ⟨0, hn⟩ _ (Nat.zero_mod _) (by show 0 < 48; omega) (by show ¬0 % 49 = 48; omega)]
    exact holds_carry16 (holds_init m c ⟨0, hn⟩) (isBlock m c ⟨0, hn⟩) _ (coords_val _) (by omega)
  | n + 1, hn, h => by
    rw [outsAt0_succ, point_mid m c ⟨n + 1, hn⟩ _ (by show ¬(n + 1) % 49 = 0; omega) h (by show ¬(n + 1) % 49 = 48; omega)]
    exact holds_carry16 (holds_outs n _ (by omega)) (isBlock m c ⟨n + 1, hn⟩) _ (coords_val _) h

/-- The launch's result: for each query with some distance below `⊤`, the first row at the least distance. -/
theorem result_apply (r : Fin 1024) (hsome : ∃ u, farK (tabOf m c) (yOf m c r) u < ⊤) :
    ∃ v, IsFirst (farK (tabOf m c) (yOf m c r)) v ∧ (G4 m c : IVec S1024x1 32) (ix2 r (0 : Fin 1)) = BitVec.ofNat 32 v := by
  have h48 : 48 < cfg0.N := lt_of_lt_of_eq (by decide) N_0.symm
  have hs : Holds (tabOf m c) (yOf m c) (16 * 48) (outsAt0 m c 47 (by omega)).2 := holds_outs m c 47 (by omega) (by omega)
  have hb := fun l => best_last14 hs (isBlock m c ⟨48, h48⟩) (grid0.coords ⟨48, h48⟩) (coords_val _) r l
  obtain ⟨v, hv, hw⟩ := winner _ hb (fun u hu => if_neg (by omega)) hsome
  have hlt : v < 100000 := by
    by_contra hge
    exact absurd hv.1 (by rw [farK, if_neg hge]; exact lt_irrefl _)
  refine ⟨v, hv, ?_⟩
  have he : outsAt0 m c 48 h48 = stAt0 m c 48 h48 (outsAt0 m c 47 (by omega)) := outsAt0_succ m c 47 h48
  have hl := point_last m c ⟨48, h48⟩ (outsAt0 m c 47 (by omega)) (by show ¬48 % 49 = 0; omega) (by show ¬48 < 48; omega) (by show 48 % 49 = 48; omega)
  dsimp only at hl hw
  rw [G4_last, ← outsAt0_sweep m c 48 h48, he, hl, pick_apply, hw]
  exact fptosi_place v (by omega)

end Points

end Cert.Proof

end
-- ==== Proof.RefRun.lean ====
/-
  The run of the reference program. It launches no kernel: it is a straight line of array operations, so from any memory
  it terminates and leaves in every buffer what the operations compute from the launch contents. `refOut` is what the
  result buffer then holds, as one term over the four argument arrays; `run` states the whole run and `frame` the part of
  it that does not mention the result.
-/
module

public import Idealize.ShloMosaic.Lib.StableHlo.Run
public import Idealize.ShloMosaic.Lib.Quiescent
public import proofs.«01_k».proof.Proof.Gen.ReferenceIdeal

@[expose] public section

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ unary main_arg2 main_v0 (broadcastInDim S1x128 ![1] bcast_S128_S1x128_1),
    unary main_v0 main_v1 (broadcastInDim S1024x128 ![0, 1] bcast_S1x128_S1024x128_0_1),
    binary main_arg0 main_v1 main_v2 subf,
    nullary main_cst (constant S_ .f32 0x358637BD#32),
    unary main_cst main_v3 (broadcastInDim S128 ![] bcast_S_S128),
    binary main_arg1 main_v3 main_v4 addf,
    unary main_v4 main_v5 (broadcastInDim S1x128 ![1] bcast_S128_S1x128_1),
    unary main_v5 main_v6 (broadcastInDim S1024x128 ![0, 1] bcast_S1x128_S1024x128_0_1),
    binary main_v2 main_v6 main_v7 Host.divf,
    binary main_v7 main_v7 main_v8 mulf,
    nullary main_cst_0 (constant S_ .f32 0x00000000#32),
    binary main_v8 main_cst_0 main_v9 (fun x v => Host.reduceAdd x v reducesTo_S1024x128_S1024_d1 h_S_),
    unary main_v9 main_v10 (broadcastInDim S1024x1 ![0] bcast_S1024_S1024x1_0),
    binary main_arg3 main_arg3 main_v11 mulf,
    nullary main_cst_1 (constant S_ .f32 0x00000000#32),
    binary main_v11 main_cst_1 main_v12 (fun x v => Host.reduceAdd x v reducesTo_S100000x128_S100000_d1 h_S_),
    unary main_v12 main_v13 (broadcastInDim S1x100000 ![1] bcast_S100000_S1x100000_1),
    unary main_v10 main_v14 (broadcastInDim S1024x100000 ![0, 1] bcast_S1024x1_S1024x100000_0_1),
    unary main_v13 main_v15 (broadcastInDim S1024x100000 ![0, 1] bcast_S1x100000_S1024x100000_0_1),
    binary main_v14 main_v15 main_v16 addf,
    unary main_arg3 main_v17 (transpose S128x100000 [1, 0] · transposes_S100000x128_S128x100000_1_0),
    binary main_v7 main_v17 main_v18 (fun l r => Host.dotGeneral dot_S1024x128_S128x100000_S1024x100000_1_0_0_1_n_n none l r),
    nullary main_cst_2 (constant S_ .f32 0x40000000#32),
    unary main_cst_2 main_v19 (broadcastInDim S1024x100000 ![] bcast_S_S1024x100000),
    binary main_v19 main_v18 main_v20 mulf,
    binary main_v16 main_v20 main_v21 subf,
    nullary main_cst_3 (constant S_ .f32 0x00000000#32),
    unary main_cst_3 main_v22 (broadcastInDim S1024x100000 ![] bcast_S_S1024x100000),
    binary main_v21 main_v22 main_v23 maximumf,
    unary main_v23 main_v24 Host.sqrt,
    TRef.nullary main_call0.v0 (iotaInDim S1024x100000 32 1),
    TRef.nullary main_call0.cst (constant S_ .f32 0x7F800000#32),
    TRef.nullary main_call0.c (constantI S_ 32 0#32),
    TRef.quaternary (.of main_v24) main_call0.v0 main_call0.cst main_call0.c main_call0.v1_0 (fun x y u v j =>
      (Host.argReduce reducer_argmin_f32_i32 x y u v reducesTo_S1024x100000_S1024_d1 h_S_ j).1),
    TRef.quaternary (.of main_v24) main_call0.v0 main_call0.cst main_call0.c main_call0.v1_1 (fun x y u v j =>
      (Host.argReduce reducer_argmin_f32_i32 x y u v reducesTo_S1024x100000_S1024_d1 h_S_ j).2),
    unary main_v25 main_v26 (broadcastInDim S1024x1 ![0] bcast_S1024_S1024x1_0) ]

/-- The program is that straight line. -/
theorem main_eq (c : Dev nD) : main (F := F) c = seq ops := rfl

/-- The standardised queries: `(emb - b) / (w + 1e-6)`, the bias and the weights repeated over the rows. -/
def refY (emb : FVec F S1024x128 .f32) (w b : FVec F S128 .f32) : FVec F S1024x128 .f32 :=
  Host.divf (subf emb (broadcastInDim S1024x128 ![0, 1] bcast_S1x128_S1024x128_0_1 (broadcastInDim S1x128 ![1] bcast_S128_S1x128_1 b)))
    (broadcastInDim S1024x128 ![0, 1] bcast_S1x128_S1024x128_0_1 (broadcastInDim S1x128 ![1] bcast_S128_S1x128_1
      (addf w (broadcastInDim S128 ![] bcast_S_S128 (constant S_ .f32 0x358637BD#32)))))

/-- The distances of every query to every table row, from the standardised queries: the square root of
    `|y|² + |t|² - 2 y·t` cut off below at zero. -/
def refDist (y : FVec F S1024x128 .f32) (tab : FVec F S100000x128 .f32) : FVec F S1024x100000 .f32 :=
  Host.sqrt (maximumf
    (subf
      (addf
        (broadcastInDim S1024x100000 ![0, 1] bcast_S1024x1_S1024x100000_0_1 (broadcastInDim S1024x1 ![0] bcast_S1024_S1024x1_0
          (Host.reduceAdd (mulf y y) (constant S_ .f32 0x00000000#32) reducesTo_S1024x128_S1024_d1 h_S_)))
        (broadcastInDim S1024x100000 ![0, 1] bcast_S1x100000_S1024x100000_0_1 (broadcastInDim S1x100000 ![1] bcast_S100000_S1x100000_1
          (Host.reduceAdd (mulf tab tab) (constant S_ .f32 0x00000000#32) reducesTo_S100000x128_S100000_d1 h_S_))))
      (mulf (broadcastInDim S1024x100000 ![] bcast_S_S1024x100000 (constant S_ .f32 0x40000000#32))
        (Host.dotGeneral dot_S1024x128_S128x100000_S1024x100000_1_0_0_1_n_n none y
          (transpose S128x100000 [1, 0] tab transposes_S100000x128_S128x100000_1_0))))
    (broadcastInDim S1024x100000 ![] bcast_S_S1024x100000 (constant S_ .f32 0x00000000#32)))

/-- What the reference returns: for every query the position of its nearest table row. -/
def refOut (emb : FVec F S1024x128 .f32) (w b : FVec F S128 .f32) (tab : FVec F S100000x128 .f32) : IVec S1024x1 32 :=
  broadcastInDim S1024x1 ![0] bcast_S1024_S1024x1_0 fun j =>
    (Host.argReduce reducer_argmin_f32_i32 (refDist (refY emb w b) tab) (iotaInDim S1024x100000 32 1)
      (constant S_ .f32 0x7F800000#32) (constantI S_ 32 0#32) reducesTo_S1024x100000_S1024_d1 h_S_ j).2

/-- The result buffer after the operations. -/
theorem out_eq (V : Valuation τ sig (Elt F)) :
    after ops V (main_v26 : DevRef τ sig) = refOut (V (main_arg0 : DevRef τ sig)) (V (main_arg1 : DevRef τ sig))
      (V (main_arg2 : DevRef τ sig)) (V (main_arg3 : DevRef τ sig)) := by
  after_results
  rfl

/-- No operation writes an argument buffer. -/
theorem arg0_eq (V : Valuation τ sig (Elt F)) : after ops V (main_arg0 : DevRef τ sig) = V (main_arg0 : DevRef τ sig) := by
  after_results
/-- The weights are not written, -/
theorem arg1_eq (V : Valuation τ sig (Elt F)) : after ops V (main_arg1 : DevRef τ sig) = V (main_arg1 : DevRef τ sig) := by
  after_results
/-- nor the biases, -/
theorem arg2_eq (V : Valuation τ sig (Elt F)) : after ops V (main_arg2 : DevRef τ sig) = V (main_arg2 : DevRef τ sig) := by
  after_results
/-- nor the table. -/
theorem arg3_eq (V : Valuation τ sig (Elt F)) : after ops V (main_arg3 : DevRef τ sig) = V (main_arg3 : DevRef τ sig) := by
  after_results

/-- The program scopes no buffer and no semaphore. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every operation touches the TensorCore's buffers only. -/
theorem ops_sub : (ops : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., binary_bufs_sub .., binary_bufs_sub .., nullary_bufs_sub .., binary_bufs_sub ..,
    unary_bufs_sub .., binary_bufs_sub .., nullary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., unary_bufs_sub ..,
    nullary_bufs_sub .., nullary_bufs_sub .., nullary_bufs_sub .., quaternary_bufs_sub .., quaternary_bufs_sub ..,
    unary_bufs_sub ..⟩

/-- From any memory with zero counters the reference terminates, its result buffer holding `refOut` of the argument arrays,
    the arguments unchanged and every counter zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v26) = refOut (m ((c.tc : Thread nD τ).loc main_arg0))
            (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => ⟨(h c main_v26).trans (out_eq _), (h c main_arg0).trans (arg0_eq _),
      (h c main_arg1).trans (arg1_eq _), (h c main_arg2).trans (arg2_eq _), (h c main_arg3).trans (arg3_eq _)⟩,
      sem_eq_zero_of_no_sems (by decide) r.2⟩)
    (run_seq scopedRefs_eq scopedSems_eq defs main (fun _ => ops) main_eq (fun _ => ops_sub) m ρ)

end Cert.Proof.RefRun

end
-- ==== Proof.RefValue.lean ====
/-
  The reference's result read at a query: the first row of the table whose distance is least, when some distance is below
  `⊤`. The reference compares square roots of squared distances cut off below at zero.
-/
module

public import proofs.«01_k».proof.Proof.RefRun
public import proofs.«01_k».proof.Proof.Tournament
public import Idealize.ShloMosaic.Lib.ValueIdx
public import Idealize.ShloMosaic.Lib.ValueIdxCoords
public import Idealize.ShloMosaic.Lib.IdealHost
public import Idealize.ShloMosaic.Lib.ValueLayout
public import Idealize.ShloMosaic.Lib.KernelVsHost
public import Idealize.ShloMosaic.Lib.StackMember
public import Idealize.ShloMosaic.Lib.Pointwise.Reduce

@[expose] public section

noncomputable section

namespace Cert.Proof.RefRun

open Cert.ReferenceIdeal Cert.ReferenceIdeal.Gen
open Idealize.ShloMosaic hiding ix1 ix2 eq_ix2
open Idealize.ShloMosaic.ValueIdx

/-! ## Broadcasts at an index -/

/-- A vector laid out as a row and repeated down the rows. -/
theorem bcast_row {α : Type} {a b : ℕ} (x : (⟨1, ![b]⟩ : Shape).Idx → α) (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 x) (ix2 p q) = x (ix1 q) := by
  rw [broadcastInDim_oneRow_apply]
  refine broadcastInDim_apply _ h1 x _ (ix1 q) fun ax => ?_
  match ax with
  | ⟨0, _⟩ =>
    show q.val = if b = 1 then 0 else q.val
    split
    · have := q.isLt; omega
    · rfl

/-- A vector laid out as a column. -/
theorem bcast_col1 {α : Type} {a : ℕ} (x : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 x (ix2 p u) = x (ix1 p) := by
  refine broadcastInDim_apply _ h1 x _ (ix1 p) fun ax => ?_
  match ax with
  | ⟨0, _⟩ =>
    show p.val = if a = 1 then 0 else p.val
    split
    · have := p.isLt; omega
    · rfl

/-- A column repeated along the rows. -/
theorem bcast_cols {α : Type} {a b : ℕ} (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ => rfl

/-! ## The distances -/

/-- A query entry. -/
theorem refY_apply (emb : FVec Ideal S1024x128 .f32) (w b : FVec Ideal S128 .f32) (r : Fin 1024) (d : Fin 128) :
    refY emb w b (ix2 r d) = Ideal.div ((emb (ix2 r d) : EReal) - b (ix1 d)) ((w (ix1 d) : EReal) + Ideal.ofBits .f32 0x358637BD#32) := by
  unfold refY
  rw [hostDivf_apply, subf_apply, bcast_row, bcast_row, addf_apply, broadcastInDim_scalar_apply]
  rfl

/-- The distance of the query `y` from row `v`, as the reference forms it. -/
def distR (tab : FVec Ideal S100000x128 .f32) (y : Fin 128 → EReal) (v : Fin 100000) : EReal :=
  Ideal.sqrt (max ((∑ d, y d * y d) + (∑ d, (tab (ix2 v d) : EReal) * tab (ix2 v d))
    - Ideal.ofBits .f32 0x40000000#32 * ∑ d, y d * tab (ix2 v d)) 0)

/-- The zero word holds 0. -/
theorem zero_word : Ideal.ofBits .f32 0x00000000#32 = 0 := by
  simp [Ideal.ofBits, Ideal.ieee, -EReal.coe_mul]

/-- The largest word holds `⊤`. -/
theorem top_word : Ideal.ofBits .f32 0x7F800000#32 = ⊤ := by
  simp [Ideal.ofBits, Ideal.ieee, -EReal.coe_mul]

/-- The host's sum of a matrix's rows. -/
theorem host_rowSum {a b : ℕ} (x : FVec Ideal ⟨2, ![a, b]⟩ .f32) (h : (⟨2, ![a, b]⟩ : Shape).ReducesTo [1] ⟨1, ![a]⟩)
    (hu : 0 < S_.numel) (p : Fin a) :
    Host.reduceAdd x (constant S_ .f32 0x00000000#32) h hu (ix1 p) = ∑ d : Fin b, x (ix2 p d) := by
  rw [hostReduceAdd_apply, Ideal.hostReduceAdd_r2_a1]
  show Ideal.ofBits .f32 0x00000000#32 + _ = _
  rw [zero_word, zero_add]
  rfl

/-- The reference's distance at a query and a row. -/
theorem refDist_apply (y : FVec Ideal S1024x128 .f32) (tab : FVec Ideal S100000x128 .f32) (r : Fin 1024) (v : Fin 100000) :
    refDist y tab (ix2 r v) = distR tab (fun d => y (ix2 r d)) v := by
  have hdot : Host.dotGeneral dot_S1024x128_S128x100000_S1024x100000_1_0_0_1_n_n none y
      (transpose S128x100000 [1, 0] tab transposes_S100000x128_S128x100000_1_0) (ix2 r v)
        = ∑ d : Fin 128, (y (ix2 r d) : EReal) * tab (ix2 v d) := by
    refine (StackMember.dotGeneral_plain_apply none y (transpose S128x100000 [1, 0] tab transposes_S100000x128_S128x100000_1_0) r v).trans ?_
    exact Finset.sum_congr rfl fun d _ => by rw [transpose_ix2_apply]
  unfold refDist distR
  show Ideal.sqrt (max ((_ + _) - _ * _) _) = _
  rw [hdot, bcast_cols, bcast_col1, bcast_row, broadcastInDim_scalar_apply, broadcastInDim_scalar_apply]
  refine congrArg Ideal.sqrt ?_
  have h1 := host_rowSum (a := 1024) (b := 128) (mulf y y) reducesTo_S1024x128_S1024_d1 h_S_ r
  have h2 := host_rowSum (a := 100000) (b := 128) (mulf tab tab) reducesTo_S100000x128_S100000_d1 h_S_ v
  refine congrArg₂ max (congrArg₂ (· - ·) (congrArg₂ (· + ·) h1 h2) rfl) zero_word

/-! ## The arg-min -/

/-- One comparison of the arg-min's fold: the lesser value, and of equal values the lesser position. -/
theorem reducer_apply (a b : Ideal .f32 × BitVec 32) :
    reducer_argmin_f32_i32 (F := Ideal) a b
      = (if (a.1 : EReal) < b.1 then a.1 else b.1,
          if (a.1 : EReal) < b.1 ∨ ((a.1 : EReal) = b.1 ∧ a.2.slt b.2) then a.2 else b.2) := by
  unfold reducer_argmin_f32_i32
  dsimp only
  show (Scalar.select (IntOp.ori (BitVec.ofBool (decide ((a.1 : EReal) < b.1))) (BitVec.ofBool (decide ((a.1 : EReal) ≠ a.1)))) a.1 b.1,
    Scalar.select (IntOp.ori (IntOp.ori (BitVec.ofBool (decide ((a.1 : EReal) < b.1))) (BitVec.ofBool (decide ((a.1 : EReal) ≠ a.1))))
      (IntOp.andi (BitVec.ofBool (decide ((a.1 : EReal) = b.1))) (BitVec.ofBool (a.2.slt b.2)))) a.2 b.2) = _
  by_cases h1 : (a.1 : EReal) < b.1 <;> by_cases h2 : (a.1 : EReal) = b.1 <;> by_cases h3 : a.2.slt b.2 = true
  all_goals simp only [h1, h2, h3, Bool.not_eq_true] at *
  all_goals simp [h1, h2, h3, IntOp.ori, IntOp.andi, Scalar.select]

/-- A pair comes before another when its value is less, or is equal and its position is no greater. -/
def Before (p q : Ideal .f32 × BitVec 32) : Prop :=
  (p.1 : EReal) < q.1 ∨ ((p.1 : EReal) = q.1 ∧ p.2.toInt ≤ q.2.toInt)

/-- The order of the pairs is transitive. -/
theorem before_trans (a b c : Ideal .f32 × BitVec 32) (h1 : Before a b) (h2 : Before b c) : Before a c := by
  rcases h1 with h1 | ⟨e1, l1⟩ <;> rcases h2 with h2 | ⟨e2, l2⟩
  · exact .inl (lt_trans h1 h2)
  · exact .inl (e2 ▸ h1)
  · exact .inl (e1 ▸ h2)
  · exact .inr ⟨e1.trans e2, l1.trans l2⟩

/-- The reducer keeps one of its two pairs, the earlier of them in the order. -/
theorem reducer_cases (a b : Ideal .f32 × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  have hr : ∀ p, Before p p := fun p => .inr ⟨rfl, le_rfl⟩
  have hslt : a.2.slt b.2 = true ↔ a.2.toInt < b.2.toInt := BitVec.slt_iff_toInt_lt
  rw [reducer_apply]
  rcases lt_trichotomy (a.1 : EReal) b.1 with h | h | h
  · rw [if_pos h, if_pos (.inl h)]
    exact ⟨.inl rfl, hr _, .inl h⟩
  · rw [if_neg (by rw [h]; exact lt_irrefl _)]
    by_cases hs : a.2.toInt < b.2.toInt
    · rw [if_pos (.inr ⟨h, hslt.2 hs⟩)]
      exact ⟨.inl (Prod.ext h.symm rfl), .inr ⟨h.symm, le_rfl⟩, .inr ⟨rfl, hs.le⟩⟩
    · rw [if_neg (by rintro (h' | ⟨-, h'⟩); exact absurd h' (by rw [h]; exact lt_irrefl _); exact hs (hslt.1 h'))]
      exact ⟨.inr rfl, .inr ⟨h.symm, not_lt.1 hs⟩, hr _⟩
  · rw [if_neg h.le.not_gt, if_neg (by rintro (h' | ⟨h', -⟩); exact absurd h' h.le.not_gt; exact absurd h' h.ne')]
    exact ⟨.inr rfl, .inl h, hr _⟩

/-- A row's pairs. -/
theorem mem_fiber (x : FVec Ideal S1024x100000 .f32) (r : Fin 1024) (p : Ideal .f32 × BitVec 32) :
    p ∈ Host.argReduceFiber x (iotaInDim S1024x100000 32 1) reducesTo_S1024x100000_S1024_d1 (ix1 r)
      ↔ ∃ v : Fin 100000, p = (x (ix2 r v), BitVec.ofNat 32 v.val) := by
  have hdrop : ∀ i : S1024x100000.Idx, reducesTo_S1024x100000_S1024_d1.drop i = ix1 (i 0) := fun i => by
    funext ax; apply Fin.ext
    match ax with
    | ⟨0, _⟩ => rfl
  unfold Host.argReduceFiber
  rw [List.mem_map]
  constructor
  · rintro ⟨n, hn, rfl⟩
    obtain ⟨-, hn⟩ := List.mem_filter.1 hn
    have h0 : (S1024x100000.rowMajor.symm n) 0 = r := by
      have h := (hdrop _).symm.trans (of_decide_eq_true hn)
      exact congrFun h 0
    refine ⟨(S1024x100000.rowMajor.symm n) 1, ?_⟩
    have he : S1024x100000.rowMajor.symm n = ix2 r ((S1024x100000.rowMajor.symm n) 1) := by
      conv_lhs => rw [eq_ix2 (S1024x100000.rowMajor.symm n)]
      rw [← h0]; rfl
    exact Prod.ext (congrArg x he) rfl
  · rintro ⟨v, rfl⟩
    refine ⟨S1024x100000.rowMajor (ix2 r v), List.mem_filter.2 ⟨List.mem_finRange _, decide_eq_true ?_⟩, ?_⟩
    · rw [Equiv.symm_apply_apply, hdrop]; rfl
    · rw [Equiv.symm_apply_apply]; rfl

/-- The distances of a query over all numbers: past the table's end it is `⊤`. -/
def farR (x : FVec Ideal S1024x100000 .f32) (r : Fin 1024) (v : ℕ) : EReal :=
  if h : v < 100000 then x (ix2 r ⟨v, h⟩) else ⊤

/-- The arg-min of a row is the first place of its least value. -/
theorem argmin_apply (x : FVec Ideal S1024x100000 .f32) (r : Fin 1024) (v : ℕ) (hv : IsFirst (farR x r) v) :
    (Host.argReduce reducer_argmin_f32_i32 x (iotaInDim S1024x100000 32 1) (constant S_ .f32 0x7F800000#32)
      (constantI S_ 32 0#32) reducesTo_S1024x100000_S1024_d1 h_S_ (ix1 r)).2 = BitVec.ofNat 32 v := by
  have hlt : v < 100000 := by
    by_contra hge
    exact absurd hv.1 (by rw [farR, dif_neg hge]; exact lt_irrefl _)
  have hint : ∀ u < 100000, (BitVec.ofNat 32 u).toInt = (u : ℤ) := fun u hu => by
    rw [BitVec.toInt_eq_toNat_of_lt] <;> rw [BitVec.toNat_ofNat] <;> omega
  rw [Ideal.argReduce_eq_reduce2, Host.reduce2_eq_foldl_fiber]
  obtain ⟨hmem, -, hle⟩ := foldl_least Before (fun p => .inr ⟨rfl, le_rfl⟩) before_trans (reducer_argmin_f32_i32 (F := Ideal))
    (fun a b => (reducer_cases a b).1) (fun a b => (reducer_cases a b).2.1) (fun a b => (reducer_cases a b).2.2)
    (Host.argReduceFiber x (iotaInDim S1024x100000 32 1) reducesTo_S1024x100000_S1024_d1 (ix1 r))
    ((constant S_ .f32 0x7F800000#32 : FVec Ideal S_ .f32) (Shape.Idx.first h_S_), (constantI S_ 32 0#32) (Shape.Idx.first h_S_))
  generalize List.foldl _ _ _ = p at hmem hle ⊢
  have hbv := hle _ ((mem_fiber x r _).2 ⟨⟨v, hlt⟩, rfl⟩)
  have hgv : farR x r v = x (ix2 r ⟨v, hlt⟩) := dif_pos hlt
  have hp1 : (p.1 : EReal) ≤ farR x r v := by
    rw [hgv]
    rcases hbv with h | ⟨h, -⟩
    · exact le_of_lt h
    · exact le_of_eq h
  rcases hmem with rfl | hmem
  · exact absurd (lt_of_le_of_lt hp1 hv.1) (by show ¬(Ideal.ofBits .f32 0x7F800000#32 < ⊤); rw [top_word]; exact lt_irrefl _)
  · obtain ⟨u, rfl⟩ := (mem_fiber x r _).1 hmem
    have hgu : farR x r u.val = x (ix2 r u) := dif_pos u.isLt
    have heq : farR x r u.val = farR x r v := le_antisymm (hgu ▸ hp1) (hv.2 u.val).1
    have huv : u.val = v := by
      rcases lt_trichotomy u.val v with h | h | h
      · exact absurd ((hv.2 u.val).2 h) (by rw [heq]; exact lt_irrefl _)
      · exact h
      · rcases hbv with h' | ⟨-, h'⟩
        · exact absurd h' (by rw [← hgu, heq, hgv]; exact lt_irrefl _)
        · have h'' : (BitVec.ofNat 32 u.val).toInt ≤ (BitVec.ofNat 32 v).toInt := h'
          rw [hint _ u.isLt, hint _ hlt] at h''
          omega
    exact congrArg (BitVec.ofNat 32) huv

/-- The reference's result at a query. -/
theorem refOut_apply (emb : FVec Ideal S1024x128 .f32) (w b : FVec Ideal S128 .f32) (tab : FVec Ideal S100000x128 .f32) (r : Fin 1024)
    (v : ℕ) (hv : IsFirst (farR (refDist (refY emb w b) tab) r) v) :
    refOut emb w b tab (ix2 r (0 : Fin 1)) = BitVec.ofNat 32 v := by
  unfold refOut
  rw [bcast_col1]
  exact argmin_apply _ r v hv

end Cert.Proof.RefRun

end
-- ==== Proof.Compare.lean ====
/-
  The two distances compared, for real queries and a real table: the kernel's is the sum of the squared differences, the
  reference's is that sum's square root, so both are least first at the same row.
-/
module

public import proofs.«01_k».proof.Proof.Search
public import proofs.«01_k».proof.Proof.RefValue

@[expose] public section

noncomputable section

namespace Cert.Proof

open Idealize.ShloMosaic hiding ix1 ix2 eq_ix2
open Idealize.ShloMosaic.ValueIdx
open Cert.KernelIdeal (S1024x128 S128 S100000x128)

/-- A sum of reals, taken among the extended reals. -/
theorem sum_coe {n : ℕ} (f : Fin n → ℝ) : ∑ d, ((f d : ℝ) : EReal) = ((∑ d, f d : ℝ) : EReal) := by
  have h : ∀ s : Finset (Fin n), ∑ d ∈ s, ((f d : ℝ) : EReal) = ((∑ d ∈ s, f d : ℝ) : EReal) := fun s => by
    classical
    induction s using Finset.induction_on with
    | empty => rfl
    | insert a s ha ih => rw [Finset.sum_insert ha, Finset.sum_insert ha, ih, EReal.coe_add]
  exact h Finset.univ

/-- The word of the factor on the products holds 2. -/
theorem word_2 : Ideal.ofBits .f32 0x40000000#32 = ((2 : ℝ) : EReal) := by
  simp [Ideal.ofBits, Ideal.ieee, -EReal.coe_mul]; norm_num

section Real

variable (y : Fin 128 → ℝ) (t : ℕ → Fin 128 → ℝ)

/-- The sum of the squared differences. -/
def sqDist (v : ℕ) : ℝ := ∑ d, (y d - t v d) ^ 2

/-- A squared distance is not below 0. -/
theorem sqDist_nonneg (v : ℕ) : 0 ≤ sqDist y t v := Finset.sum_nonneg fun _ _ => sq_nonneg _

/-- The square opened. -/
theorem sqDist_eq (v : ℕ) : sqDist y t v = (∑ d, y d * y d) + (∑ d, t v d * t v d) - 2 * ∑ d, y d * t v d := by
  unfold sqDist
  rw [Finset.mul_sum, ← Finset.sum_add_distrib, ← Finset.sum_sub_distrib]
  exact Finset.sum_congr rfl fun d _ => by ring

variable {y t} {tab : Vec Ideal S100000x128 .f32} {yE : Fin 128 → EReal}

/-- The kernel's distance is that sum. -/
theorem distK_real (hy : ∀ d, yE d = ((y d : ℝ) : EReal)) {v : ℕ} (ht : ∀ d, row tab v d = ((t v d : ℝ) : EReal)) :
    distK tab yE v = ((sqDist y t v : ℝ) : EReal) := by
  unfold distK
  simp only [hy, ht, ← EReal.coe_mul, sum_coe, ← EReal.coe_add]
  rw [sqDist_eq, Finset.mul_sum, sub_eq_add_neg, ← Finset.sum_neg_distrib]
  refine congrArg _ (congrArg _ (Finset.sum_congr rfl fun d _ => by ring))

/-- The reference's is its square root. -/
theorem distR_real (hy : ∀ d, yE d = ((y d : ℝ) : EReal)) {v : ℕ} (hv : v < 100000) (ht : ∀ d, row tab v d = ((t v d : ℝ) : EReal)) :
    RefRun.distR tab yE ⟨v, hv⟩ = ((Real.sqrt (sqDist y t v) : ℝ) : EReal) := by
  have ht' : ∀ d, (tab (ix2 ⟨v, hv⟩ d) : EReal) = ((t v d : ℝ) : EReal) := fun d => by rw [← ht, row, dif_pos hv]
  unfold RefRun.distR
  rw [word_2]
  simp only [hy, ht', ← EReal.coe_mul, sum_coe, ← EReal.coe_add, ← EReal.coe_sub]
  rw [← sqDist_eq, max_eq_left (EReal.coe_nonneg.2 (sqDist_nonneg y t v))]
  show (if sqDist y t v < 0 then (⊥ : EReal) else ((Real.sqrt (sqDist y t v) : ℝ) : EReal)) = _
  rw [if_neg (not_lt.2 (sqDist_nonneg y t v))]

/-- Some row has a distance below `⊤`, -/
theorem farK_some (hy : ∀ d, yE d = ((y d : ℝ) : EReal)) (ht : ∀ v < 100000, ∀ d, row tab v d = ((t v d : ℝ) : EReal)) :
    ∃ u, farK tab yE u < ⊤ :=
  ⟨0, by rw [farK, if_pos (by norm_num), distK_real hy (ht 0 (by norm_num))]; exact EReal.coe_lt_top _⟩

/-- and the row where the kernel's distance is first least is the row where the reference's is. -/
theorem isFirst_ref (hy : ∀ d, yE d = ((y d : ℝ) : EReal)) (ht : ∀ v < 100000, ∀ d, row tab v d = ((t v d : ℝ) : EReal)) {v : ℕ}
    (hv : IsFirst (farK tab yE) v) : IsFirst (fun u => if h : u < 100000 then RefRun.distR tab yE ⟨u, h⟩ else ⊤) v := by
  have hK : ∀ u, farK tab yE u = if u < 100000 then ((sqDist y t u : ℝ) : EReal) else ⊤ := fun u => by
    unfold farK; split
    · next h => exact distK_real hy (ht u h)
    · rfl
  have hR : ∀ u, (if h : u < 100000 then RefRun.distR tab yE ⟨u, h⟩ else ⊤)
      = if u < 100000 then ((Real.sqrt (sqDist y t u) : ℝ) : EReal) else ⊤ := fun u => by
    split
    · next h => exact distR_real hy h (ht u h)
    · rfl
  simp only [hR]
  have hlt : v < 100000 := by
    by_contra hge
    exact absurd hv.1 (by rw [farK, if_neg hge]; exact lt_irrefl _)
  refine hv.of_order (fun u w h => ?_) (fun u w h => ?_) (by rw [if_pos hlt]; exact EReal.coe_lt_top _)
  · rw [hK, hK] at h
    by_cases hu : u < 100000 <;> by_cases hw : w < 100000
    · rw [if_pos hu, if_pos hw] at h ⊢
      exact EReal.coe_lt_coe_iff.2 (Real.sqrt_lt_sqrt (sqDist_nonneg y t u) (EReal.coe_lt_coe_iff.1 h))
    · rw [if_pos hu, if_neg hw]; exact EReal.coe_lt_top _
    · rw [if_neg hu] at h; exact absurd h not_top_lt
    · rw [if_neg hu] at h; exact absurd h not_top_lt
  · rw [hK, hK] at h
    by_cases hu : u < 100000 <;> by_cases hw : w < 100000
    · rw [if_pos hu, if_pos hw] at h ⊢
      exact EReal.coe_le_coe_iff.2 (Real.sqrt_le_sqrt (EReal.coe_le_coe_iff.1 h))
    · rw [if_neg hw]; exact le_top
    · rw [if_neg hu, if_pos hw] at h; exact absurd (lt_of_le_of_lt h (EReal.coe_lt_top _)) (lt_irrefl _)
    · rw [if_neg hw]; exact le_top

end Real

end Cert.Proof

end
-- ==== Proof.Result.lean ====
/-
  The kernel's result is the reference's, at every query, when the queries after the shift and the scaling and the table are
  finite.
-/
module

public import proofs.«01_k».proof.Defs
public import proofs.«01_k».proof.Proof.Compare
public import proofs.«01_k».proof.Proof.Gen.Pre_finite

@[expose] public section

noncomputable section

namespace Cert.Proof

open Idealize.ShloMosaic hiding ix1 ix2 eq_ix2
open Idealize.ShloMosaic.TcCoe Idealize.ShloMosaic.ValueIdx Idealize.SL.Sem
open Cert.KernelIdeal (S1024x1 S1024x128 S128 S100000x128)

/-- A value whose absolute value is below `⊤` is a real. -/
theorem real_of_abs_lt (a : EReal) (h : Ideal.cmp .olt (max a (-a)) (Ideal.ofBits .f32 0x7F800000#32) = 1#1) :
    a = ((a.toReal : ℝ) : EReal) := by
  rw [word_top] at h
  have hlt : max a (-a) < ⊤ := by
    by_contra hn
    have : Ideal.cmp .olt (max a (-a)) ⊤ = 0#1 := by
      show BitVec.ofBool (decide (max a (-a) < ⊤)) = 0#1
      rw [decide_eq_false hn]; rfl
    rw [this] at h
    exact absurd h (by decide)
  refine (EReal.coe_toReal (fun e => ?_) (fun e => ?_)).symm
  · rw [e] at hlt; exact absurd hlt (by simp)
  · rw [e] at hlt; exact absurd hlt (by simp)

section

open Cert.KernelIdeal

variable (m : (ℓ : Loc nD τ sig) → Buf (Elt Ideal) ℓ)

/-- Under the precondition a query's entries are reals, -/
theorem query_real (hpre : Cert.Pre_KernelIdeal_finite m) (c : Dev nD) (r : Fin 1024) (d : Fin 128) :
    yOf m c r d = (((yOf m c r d).toReal : ℝ) : EReal) := by
  refine real_of_abs_lt _ ?_
  have h := congrFun (hpre c).1 (ix2 r d)
  have hy := RefRun.refY_apply (m ((c : Thread nD τ).loc main_arg0)) (m ((c : Thread nD τ).loc main_arg1)) (m ((c : Thread nD τ).loc main_arg2)) r d
  show Ideal.cmp .olt (max (queryOf _ _ _ r d) (-queryOf _ _ _ r d)) _ = 1#1
  unfold queryOf
  rw [← hy]
  exact h

/-- and so are the table's. -/
theorem table_real (hpre : Cert.Pre_KernelIdeal_finite m) (c : Dev nD) (v : ℕ) (hv : v < 100000) (d : Fin 128) :
    row (tabOf m c) v d = (((row (tabOf m c) v d).toReal : ℝ) : EReal) := by
  refine real_of_abs_lt _ ?_
  have h := congrFun (hpre c).2 (ix2 ⟨v, hv⟩ d)
  rw [row, dif_pos hv]
  exact h

/-- The two results. -/
theorem result_eq (hpre : Cert.Pre_KernelIdeal_finite m) (c : Dev nD) :
    (Value.G4 m c : IVec S1024x1 32) = RefRun.refOut (F := Ideal) (m ((c : Thread nD τ).loc main_arg0)) (m ((c : Thread nD τ).loc main_arg1))
      (m ((c : Thread nD τ).loc main_arg2)) (m ((c : Thread nD τ).loc main_arg3)) := by
  funext i
  obtain ⟨r, rfl⟩ : ∃ r : Fin 1024, i = ix2 r (0 : Fin 1) := ⟨i 0, by
    refine (eq_ix2 i).trans ?_
    have h1 : i 1 = (0 : Fin 1) := Fin.ext (by have : (i 1).val < 1 := (i 1).isLt; show (i 1).val = 0; omega)
    exact congrArg (ix2 (i 0)) h1⟩
  have hy := query_real m hpre c r
  have ht := table_real m hpre c
  obtain ⟨v, hv, hres⟩ := result_apply m c r (farK_some (y := fun d => (yOf m c r d).toReal)
    (t := fun v d => (row (tabOf m c) v d).toReal) hy ht)
  rw [hres]
  refine (RefRun.refOut_apply _ _ _ _ r v ?_).symm
  have hfirst := isFirst_ref hy ht hv
  have he : (fun u => if h : u < 100000 then RefRun.distR (tabOf m c) (yOf m c r) ⟨u, h⟩ else ⊤)
      = RefRun.farR (RefRun.refDist (F := Ideal) (RefRun.refY (F := Ideal) (m ((c : Thread nD τ).loc main_arg0)) (m ((c : Thread nD τ).loc main_arg1))
          (m ((c : Thread nD τ).loc main_arg2))) (m ((c : Thread nD τ).loc main_arg3))) r := by
    funext u
    unfold RefRun.farR
    split
    · rw [RefRun.refDist_apply]
      exact congrArg (fun f => RefRun.distR (tabOf m c) f _) (funext fun d => (RefRun.refY_apply _ _ _ r d).symm)
    · rfl
  rw [← he]
  exact hfirst

end

/-- The idealized kernel and the reference end with the same result. -/
theorem algebraic : Cert.algebraic_KernelIdeal_ReferenceIdeal_pre_finite := by
  intro m g m' g' hpre hagree
  refine ⟨fun c => Cert.KernelIdeal.Value.G4 m c, Cert.KernelIdeal.Value.run m g, ?_⟩
  refine (θ_run Cert.ReferenceIdeal.defs _ _).mono (fun r h c => ⟨(h.1 c).1.trans ?_, (h.1 c).2⟩) (RefRun.run m' g')
  obtain ⟨h0, h1, h2, h3⟩ := hagree c
  rw [h0, h1, h2, h3]
  exact (result_eq m hpre c).symm

end Cert.Proof

end
-- ==== Proof.lean ====
/-
  The claim of `Cert.Claim`: the frames of the kernel, of the idealized kernel and of the reference; that idealizing the kernel
  rewrote nothing; and that the idealized kernel and the reference end with the same result.
-/
module

public import proofs.«01_k».proof.Defs
public import proofs.«01_k».proof.Proof.KernelFrame
public import proofs.«01_k».proof.Proof.Result
public import proofs.«01_k».proof.Proof.Gen.Kernel
public import proofs.«01_k».proof.Proof.Gen.KernelIdeal
public import proofs.«01_k».proof.Proof.Gen.ReferenceIdeal
public import proofs.«01_k».proof.Proof.Gen.Pre_finite

@[expose] public section

noncomputable section

namespace Cert.Proof

open Idealize.ShloMosaic Idealize.SL.Sem

/-- The reference leaves its arguments as they were, and every counter at zero. -/
theorem frame_reference : Cert.quiescent_ReferenceIdeal := fun m g _ =>
  (θ_run Cert.ReferenceIdeal.defs _ _).mono (fun _ h => ⟨fun c => (h.1 c).2, h.2⟩) (RefRun.run m g)

/-- The certificate's claim. -/
theorem claim : Cert.Claim := ⟨Cert.Kernel.Gen.facts, Cert.KernelIdeal.Gen.facts, Cert.ReferenceIdeal.Gen.facts, Cert.Pre_finite.Gen.facts,
  frame_kernel, frame_ideal, fun m g _ => frame_ideal m g trivial, frame_reference, fun m g _ => frame_reference m g trivial,
  trivial, algebraic⟩

end Cert.Proof

end
